-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_permuted [hPre_permuted : Cert.Pre_permuted.Facts] (m : (ℓ : Loc Cert.KernelIdeal.nD Cert.KernelIdeal.τ Cert.KernelIdeal.sig) → Buf (Elt Ideal) ℓ) : Prop :=
  ∀ c : Dev Cert.KernelIdeal.nD,
    (Cert.Pre_permuted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_permuted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_permuted [hPre_permuted : Cert.Pre_permuted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_permuted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_permuted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_permuted [hKernelIdeal : Cert.KernelIdeal.Facts] [hPre_permuted : Cert.Pre_permuted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_permuted m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_permuted [hReferenceIdeal : Cert.ReferenceIdeal.Facts] [hPre_permuted : Cert.Pre_permuted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_permuted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_permuted [hKernelIdeal : Cert.KernelIdeal.Facts] [hReferenceIdeal : Cert.ReferenceIdeal.Facts] [hPre_permuted : Cert.Pre_permuted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_permuted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_permuted : Cert.Pre_permuted.Facts),
    quiescent_Kernel (hKernel := hKernel)
    ∧ quiescent_KernelIdeal (hKernelIdeal := hKernelIdeal)
    ∧ quiescent_KernelIdeal_pre_permuted (hKernelIdeal := hKernelIdeal) (hPre_permuted := hPre_permuted)
    ∧ quiescent_ReferenceIdeal (hReferenceIdeal := hReferenceIdeal)
    ∧ quiescent_ReferenceIdeal_pre_permuted (hReferenceIdeal := hReferenceIdeal) (hPre_permuted := hPre_permuted)
    ∧ preserves_Kernel_KernelIdeal
    ∧ algebraic_KernelIdeal_ReferenceIdeal_pre_permuted (hKernelIdeal := hKernelIdeal) (hReferenceIdeal := hReferenceIdeal) (hPre_permuted := hPre_permuted)
-- ==== Pre_permuted.lean ====
abbrev S24576x1024 : Shape := ⟨2, ![24576, 1024]⟩
abbrev S3x1024 : Shape := ⟨2, ![3, 1024]⟩
abbrev S_ : Shape := ⟨0, ![]⟩
abbrev S3x1024x1 : Shape := ⟨3, ![3, 1024, 1]⟩
abbrev S3x1x1024 : Shape := ⟨3, ![3, 1, 1024]⟩
abbrev S3x1024x1024 : Shape := ⟨3, ![3, 1024, 1024]⟩
abbrev S1024x1024 : Shape := ⟨2, ![1024, 1024]⟩
abbrev S1x1024x1024 : Shape := ⟨3, ![1, 1024, 1024]⟩

class Facts : Prop where
  bcast_S_S3x1024 : S_.BroadcastsInDim S3x1024 (![] : Fin 0 → Fin S3x1024.rank)
  bcast_S3x1024_S3x1024x1_0_1 : S3x1024.BroadcastsInDim S3x1024x1 (![0, 1] : Fin 2 → Fin S3x1024x1.rank)
  bcast_S3x1024_S3x1x1024_0_2 : S3x1024.BroadcastsInDim S3x1x1024 (![0, 2] : Fin 2 → Fin S3x1x1024.rank)
  bcast_S3x1024x1_S3x1024x1024_0_1_2 : S3x1024x1.BroadcastsInDim S3x1024x1024 (![0, 1, 2] : Fin 3 → Fin S3x1024x1024.rank)
  bcast_S3x1x1024_S3x1024x1024_0_1_2 : S3x1x1024.BroadcastsInDim S3x1024x1024 (![0, 1, 2] : Fin 3 → Fin S3x1024x1024.rank)
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S3x1024x1024_0_1_2 : S1x1024x1024.BroadcastsInDim S3x1024x1024 (![0, 1, 2] : Fin 3 → Fin S3x1024x1024.rank)
  reducesTo_S3x1024_S_d0_1 : S3x1024.ReducesTo [0, 1] S_
  h_S_ : 0 < S_.numel
  reducesTo_S3x1024x1024_S_d0_1_2 : S3x1024x1024.ReducesTo [0, 1, 2] S_

variable [Facts]

def fn_part1 {F : FTy → Type} [FloatOps F] (main_v17 : IVec S3x1024x1024 1) (main_v18 : IVec S_ 1) (main_c_3 : IVec S_ 1) : IVec S_ 1 × IVec S_ 1 :=
  let main_v19 : IVec S_ 1 := (fun x v => Host.reduce IntOp.andi x v reducesTo_S3x1024x1024_S_d0_1_2 h_S_) main_v17 main_c_3
  (main_v18, main_v19)

def fn {F : FTy → Type} [FloatOps F] (main_arg0 : FVec F S24576x1024 .f32) (main_arg1 : IVec S3x1024 32) : IVec S_ 1 × IVec S_ 1 :=
  let main_c : IVec S_ 32 := constantI S_ 32 0#32
  let main_v0 : IVec S3x1024 32 := broadcastInDim S3x1024 ![] bcast_S_S3x1024 main_c
  let main_v1 : IVec S3x1024 1 := cmpi .sge main_arg1 main_v0
  let main_c_0 : IVec S_ 32 := constantI S_ 32 1024#32
  let main_v2 : IVec S3x1024 32 := broadcastInDim S3x1024 ![] bcast_S_S3x1024 main_c_0
  let main_v3 : IVec S3x1024 1 := cmpi .slt main_arg1 main_v2
  let main_v4 : IVec S3x1024 1 := andi main_v1 main_v3
  let main_v5 : IVec S3x1024x1 32 := broadcastInDim S3x1024x1 ![0, 1] bcast_S3x1024_S3x1024x1_0_1 main_arg1
  let main_v6 : IVec S3x1x1024 32 := broadcastInDim S3x1x1024 ![0, 2] bcast_S3x1024_S3x1x1024_0_2 main_arg1
  let main_v7 : IVec S3x1024x1024 32 := broadcastInDim S3x1024x1024 ![0, 1, 2] bcast_S3x1024x1_S3x1024x1024_0_1_2 main_v5
  let main_v8 : IVec S3x1024x1024 32 := broadcastInDim S3x1024x1024 ![0, 1, 2] bcast_S3x1x1024_S3x1024x1024_0_1_2 main_v6
  let main_v9 : IVec S3x1024x1024 1 := cmpi .eq main_v7 main_v8
  let main_v10 : IVec S1024x1024 32 := iotaInDim S1024x1024 32 0
  let main_v11 : IVec S1024x1024 32 := iotaInDim S1024x1024 32 1
  let main_c_1 : IVec S_ 32 := constantI S_ 32 0#32
  let main_v12 : IVec S1024x1024 32 := broadcastInDim S1024x1024 ![] bcast_S_S1024x1024 main_c_1
  let main_v13 : IVec S1024x1024 32 := addi main_v10 main_v12
  let main_v14 : IVec S1024x1024 1 := cmpi .eq main_v13 main_v11
  let main_v15 : IVec S1x1024x1024 1 := broadcastInDim S1x1024x1024 ![1, 2] bcast_S1024x1024_S1x1024x1024_1_2 main_v14
  let main_v16 : IVec S3x1024x1024 1 := broadcastInDim S3x1024x1024 ![0, 1, 2] bcast_S1x1024x1024_S3x1024x1024_0_1_2 main_v15
  let main_v17 : IVec S3x1024x1024 1 := cmpi .eq main_v9 main_v16
  let main_c_2 : IVec S_ 1 := constantI S_ 1 1#1
  let main_v18 : IVec S_ 1 := (fun x v => Host.reduce IntOp.andi x v reducesTo_S3x1024_S_d0_1 h_S_) main_v4 main_c_2
  let main_c_3 : IVec S_ 1 := constantI S_ 1 1#1
  fn_part1 (F := F) main_v17 main_v18 main_c_3
-- ==== Kernel.lean ====
abbrev S24576x1024 : Shape := ⟨2, ![24576, 1024]⟩
abbrev S3x1024 : Shape := ⟨2, ![3, 1024]⟩
abbrev S3x1x1024 : Shape := ⟨3, ![3, 1, 1024]⟩
abbrev S1024x1024 : Shape := ⟨2, ![1024, 1024]⟩
abbrev S1x1x1024 : Shape := ⟨3, ![1, 1, 1024]⟩
abbrev S1x1024 : Shape := ⟨2, ![1, 1024]⟩
abbrev S1024 : Shape := ⟨1, ![1024]⟩
abbrev S1024x128 : Shape := ⟨2, ![1024, 128]⟩
abbrev S128x128 : Shape := ⟨2, ![128, 128]⟩
abbrev S16x16 : Shape := ⟨2, ![16, 16]⟩
abbrev S16x128 : Shape := ⟨2, ![16, 128]⟩
abbrev S16x1024 : Shape := ⟨2, ![16, 1024]⟩
abbrev S1x128 : Shape := ⟨2, ![1, 128]⟩

abbrev nBuf : Space → Nat
  | .hbm => 4
  | .vmem => 9
  | .smem => 0
  | _ => 0

abbrev bufTy : (tb : Table) → Fin (tcTables nBuf tb) → BufTy
  | .hbm, ⟨0, _⟩ => ⟨S24576x1024, .f32⟩
  | .hbm, ⟨1, _⟩ => ⟨S3x1024, .i32⟩
  | .hbm, ⟨2, _⟩ => ⟨S3x1x1024, .i32⟩
  | .hbm, ⟨3, _⟩ => ⟨S24576x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .i32⟩
  | .local _ .vmem, ⟨3, _⟩ => ⟨S1x1x1024, .i32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .bf16⟩
  | _, _ => ⟨S24576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 16], ![false, false]⟩

def k0_cond5 (i : grid0.Coords) : BitVec 1 :=
  let arg1 : BitVec 32 := BitVec.ofNat 32 (i 1).val
  let c8_i32_0 : BitVec 32 := 8#32
  let v3 : BitVec 1 := Scalar.cmpi .sge arg1 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 1 := Scalar.cmpi .slt arg1 c8_i32_0
  let c8_i32_1 : BitVec 32 := 8#32
  let v2 : BitVec 32 := Scalar.subi arg1 c8_i32_1
  let v3 : BitVec 32 := Scalar.select v1 arg1 v2
  let v4 : BitVec 32 := Scalar.addi v0 v3
  let c0_i32 : BitVec 32 := 0#32
  let c0_i32_2 : BitVec 32 := 0#32
  ![v4.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 1 := Scalar.cmpi .slt arg1 c8_i32_0
  let c8_i32_1 : BitVec 32 := 8#32
  let v2 : BitVec 32 := Scalar.subi arg1 c8_i32_1
  let c0_i32 : BitVec 32 := 0#32
  let v3 : BitVec 32 := Scalar.select v1 c0_i32 v2
  let v4 : BitVec 32 := Scalar.addi v0 v3
  let c0_i32_2 : BitVec 32 := 0#32
  let c0_i32_3 : BitVec 32 := 0#32
  ![v4.toNat, c0_i32_2.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S24576x1024 : Shape := ⟨2, ![24576, 1024]⟩
abbrev S3x1024 : Shape := ⟨2, ![3, 1024]⟩
abbrev S3x8192x1024 : Shape := ⟨3, ![3, 8192, 1024]⟩
abbrev S3x1x1024 : Shape := ⟨3, ![3, 1, 1024]⟩
abbrev S_ : Shape := ⟨0, ![]⟩
abbrev S3x1024x1 : Shape := ⟨3, ![3, 1024, 1]⟩
abbrev S1 : Shape := ⟨1, ![1]⟩
abbrev S1x1x1 : Shape := ⟨3, ![1, 1, 1]⟩
abbrev S3x8192x64x16 : Shape := ⟨4, ![3, 8192, 64, 16]⟩
abbrev S3x64x16 : Shape := ⟨3, ![3, 64, 16]⟩
abbrev S3x1x64x16 : Shape := ⟨4, ![3, 1, 64, 16]⟩
abbrev S3x64x8192x16 : Shape := ⟨4, ![3, 64, 8192, 16]⟩
abbrev S3x64x16x16 : Shape := ⟨4, ![3, 64, 16, 16]⟩
abbrev S3x64 : Shape := ⟨2, ![3, 64]⟩
abbrev S3x64x1x1 : Shape := ⟨4, ![3, 64, 1, 1]⟩
abbrev S16x16 : Shape := ⟨2, ![16, 16]⟩
abbrev S1x1x16x16 : Shape := ⟨4, ![1, 1, 16, 16]⟩
abbrev S3x64x16x8192 : Shape := ⟨4, ![3, 64, 16, 8192]⟩
abbrev S3x1024x8192 : Shape := ⟨3, ![3, 1024, 8192]⟩

abbrev nBuf : Space → Nat
  | .hbm => 191
  | .vmem => 0
  | .smem => 0
  | _ => 0

abbrev hbmTy0_0 (i : Nat) : BufTy := match i % 128 with
  | 0 => ⟨S24576x1024, .f32⟩
  | 1 => ⟨S3x1024, .i32⟩
  | 2 => ⟨S3x8192x1024, .f32⟩
  | 3 => ⟨S3x1x1024, .i32⟩
  | 4 => ⟨S_, .i32⟩
  | 5 => ⟨S3x1x1024, .i32⟩
  | 6 => ⟨S3x1x1024, .i1⟩
  | 7 => ⟨S_, .i32⟩
  | 8 => ⟨S3x1x1024, .i32⟩
  | 9 => ⟨S3x1x1024, .i32⟩
  | 10 => ⟨S3x1x1024, .i32⟩
  | 11 => ⟨S3x1024x1, .i32⟩
  | 12 => ⟨S1, .i32⟩
  | 13 => ⟨S_, .i32⟩
  | 14 => ⟨S3x1024x1, .i32⟩
  | 15 => ⟨S3x1024x1, .i1⟩
  | 16 => ⟨S1x1x1, .i32⟩
  | 17 => ⟨S3x1024x1, .i32⟩
  | 18 => ⟨S3x1024x1, .i1⟩
  | 19 => ⟨S3x1024x1, .i1⟩
  | 20 => ⟨S_, .i1⟩
  | 21 => ⟨S3x1024, .i1⟩
  | 22 => ⟨S3x8192x1024, .f32⟩
  | 23 => ⟨S3x8192x1024, .i1⟩
  | 24 => ⟨S_, .f32⟩
  | 25 => ⟨S3x8192x1024, .f32⟩
  | 26 => ⟨S3x8192x1024, .f32⟩
  | 27 => ⟨S3x8192x64x16, .f32⟩
  | 28 => ⟨S_, .f32⟩
  | 29 => ⟨S3x64x16, .f32⟩
  | 30 => ⟨S3x1x64x16, .f32⟩
  | 31 => ⟨S_, .f32⟩
  | 32 => ⟨S3x1x64x16, .f32⟩
  | 33 => ⟨S3x1x64x16, .f32⟩
  | 34 => ⟨S3x8192x64x16, .f32⟩
  | 35 => ⟨S3x8192x64x16, .f32⟩
  | 36 => ⟨S3x64x8192x16, .f32⟩
  | 37 => ⟨S3x64x16x16, .f32⟩
  | 38 => ⟨S_, .f32⟩
  | 39 => ⟨S3x64x16x16, .f32⟩
  | 40 => ⟨S3x64x16x16, .f32⟩
  | 41 => ⟨S3x64x16x16, .f32⟩
  | 42 => ⟨S_, .f32⟩
  | 43 => ⟨S3x64, .f32⟩
  | 44 => ⟨S3x64x1x1, .f32⟩
  | 45 => ⟨S_, .f32⟩
  | 46 => ⟨S3x64x1x1, .f32⟩
  | 47 => ⟨S3x64x1x1, .f32⟩
  | 48 => ⟨S16x16, .i32⟩
  | 49 => ⟨S16x16, .i32⟩
  | 50 => ⟨S_, .i32⟩
  | 51 => ⟨S16x16, .i32⟩
  | 52 => ⟨S16x16, .i32⟩
  | 53 => ⟨S16x16, .i1⟩
  | 54 => ⟨S16x16, .f32⟩
  | 55 => ⟨S_, .f32⟩
  | 56 => ⟨S3x64x1x1, .f32⟩
  | 57 => ⟨S3x64x1x1, .f32⟩
  | 58 => ⟨S3x64x16x16, .f32⟩
  | 59 => ⟨S3x64x16x16, .f32⟩
  | 60 => ⟨S3x64x16x16, .f32⟩
  | 61 => ⟨S_, .f32⟩
  | 62 => ⟨S16x16, .f32⟩
  | 63 => ⟨S16x16, .f32⟩
  | 64 => ⟨S3x64x16x16, .f32⟩
  | 65 => ⟨S_, .f32⟩
  | 66 => ⟨S3x64x16x16, .f32⟩
  | 67 => ⟨S3x64x16x16, .f32⟩
  | 68 => ⟨S1x1x16x16, .f32⟩
  | 69 => ⟨S3x64x16x16, .f32⟩
  | 70 => ⟨S3x64x16x16, .f32⟩
  | 71 => ⟨S3x64x16x16, .f32⟩
  | 72 => ⟨S3x64x16x16, .f32⟩
  | 73 => ⟨S_, .f32⟩
  | 74 => ⟨S16x16, .f32⟩
  | 75 => ⟨S16x16, .f32⟩
  | 76 => ⟨S3x64x16x16, .f32⟩
  | 77 => ⟨S_, .f32⟩
  | 78 => ⟨S3x64x16x16, .f32⟩
  | 79 => ⟨S3x64x16x16, .f32⟩
  | 80 => ⟨S1x1x16x16, .f32⟩
  | 81 => ⟨S3x64x16x16, .f32⟩
  | 82 => ⟨S3x64x16x16, .f32⟩
  | 83 => ⟨S3x64x16x16, .f32⟩
  | 84 => ⟨S3x64x16x16, .f32⟩
  | 85 => ⟨S_, .f32⟩
  | 86 => ⟨S16x16, .f32⟩
  | 87 => ⟨S16x16, .f32⟩
  | 88 => ⟨S3x64x16x16, .f32⟩
  | 89 => ⟨S_, .f32⟩
  | 90 => ⟨S3x64x16x16, .f32⟩
  | 91 => ⟨S3x64x16x16, .f32⟩
  | 92 => ⟨S1x1x16x16, .f32⟩
  | 93 => ⟨S3x64x16x16, .f32⟩
  | 94 => ⟨S3x64x16x16, .f32⟩
  | 95 => ⟨S3x64x16x16, .f32⟩
  | 96 => ⟨S3x64x16x16, .f32⟩
  | 97 => ⟨S_, .f32⟩
  | 98 => ⟨S16x16, .f32⟩
  | 99 => ⟨S16x16, .f32⟩
  | 100 => ⟨S3x64x16x16, .f32⟩
  | 101 => ⟨S_, .f32⟩
  | 102 => ⟨S3x64x16x16, .f32⟩
  | 103 => ⟨S3x64x16x16, .f32⟩
  | 104 => ⟨S1x1x16x16, .f32⟩
  | 105 => ⟨S3x64x16x16, .f32⟩
  | 106 => ⟨S3x64x16x16, .f32⟩
  | 107 => ⟨S3x64x16x16, .f32⟩
  | 108 => ⟨S3x64x16x16, .f32⟩
  | 109 => ⟨S_, .f32⟩
  | 110 => ⟨S16x16, .f32⟩
  | 111 => ⟨S16x16, .f32⟩
  | 112 => ⟨S3x64x16x16, .f32⟩
  | 113 => ⟨S_, .f32⟩
  | 114 => ⟨S3x64x16x16, .f32⟩
  | 115 => ⟨S3x64x16x16, .f32⟩
  | 116 => ⟨S1x1x16x16, .f32⟩
  | 117 => ⟨S3x64x16x16, .f32⟩
  | 118 => ⟨S3x64x16x16, .f32⟩
  | 119 => ⟨S3x64x16x16, .f32⟩
  | 120 => ⟨S3x64x16x16, .f32⟩
  | 121 => ⟨S_, .f32⟩
  | 122 => ⟨S16x16, .f32⟩
  | 123 => ⟨S16x16, .f32⟩
  | 124 => ⟨S3x64x16x16, .f32⟩
  | 125 => ⟨S_, .f32⟩
  | 126 => ⟨S3x64x16x16, .f32⟩
  | 127 => ⟨S3x64x16x16, .f32⟩
  | _ => ⟨S24576x1024, .f32⟩

abbrev hbmTy0_1 (i : Nat) : BufTy := match i % 128 with
  | 0 => ⟨S1x1x16x16, .f32⟩
  | 1 => ⟨S3x64x16x16, .f32⟩
  | 2 => ⟨S3x64x16x16, .f32⟩
  | 3 => ⟨S3x64x16x16, .f32⟩
  | 4 => ⟨S3x64x16x16, .f32⟩
  | 5 => ⟨S_, .f32⟩
  | 6 => ⟨S16x16, .f32⟩
  | 7 => ⟨S16x16, .f32⟩
  | 8 => ⟨S3x64x16x16, .f32⟩
  | 9 => ⟨S_, .f32⟩
  | 10 => ⟨S3x64x16x16, .f32⟩
  | 11 => ⟨S3x64x16x16, .f32⟩
  | 12 => ⟨S1x1x16x16, .f32⟩
  | 13 => ⟨S3x64x16x16, .f32⟩
  | 14 => ⟨S3x64x16x16, .f32⟩
  | 15 => ⟨S3x64x16x16, .f32⟩
  | 16 => ⟨S3x64x16x16, .f32⟩
  | 17 => ⟨S_, .f32⟩
  | 18 => ⟨S16x16, .f32⟩
  | 19 => ⟨S16x16, .f32⟩
  | 20 => ⟨S3x64x16x16, .f32⟩
  | 21 => ⟨S_, .f32⟩
  | 22 => ⟨S3x64x16x16, .f32⟩
  | 23 => ⟨S3x64x16x16, .f32⟩
  | 24 => ⟨S1x1x16x16, .f32⟩
  | 25 => ⟨S3x64x16x16, .f32⟩
  | 26 => ⟨S3x64x16x16, .f32⟩
  | 27 => ⟨S3x64x16x16, .f32⟩
  | 28 => ⟨S3x64x16x16, .f32⟩
  | 29 => ⟨S3x64x1x1, .f32⟩
  | 30 => ⟨S3x64x16x16, .f32⟩
  | 31 => ⟨S3x64x16x16, .f32⟩
  | 32 => ⟨S3x64x8192x16, .f32⟩
  | 33 => ⟨S3x64x16x8192, .f32⟩
  | 34 => ⟨S3x1024x8192, .f32⟩
  | 35 => ⟨S3x1024, .i32⟩
  | 36 => ⟨S3x1024, .i32⟩
  | 37 => ⟨S3x1024, .i32⟩
  | 38 => ⟨S3x1024x1, .i32⟩
  | 39 => ⟨S_, .i32⟩
  | 40 => ⟨S3x1024x1, .i32⟩
  | 41 => ⟨S3x1024x1, .i1⟩
  | 42 => ⟨S_, .i32⟩
  | 43 => ⟨S3x1024x1, .i32⟩
  | 44 => ⟨S3x1024x1, .i32⟩
  | 45 => ⟨S3x1024x1, .i32⟩
  | 46 => ⟨S1, .i32⟩
  | 47 => ⟨S_, .i32⟩
  | 48 => ⟨S3x1024x1, .i32⟩
  | 49 => ⟨S3x1024x1, .i1⟩
  | 50 => ⟨S1x1x1, .i32⟩
  | 51 => ⟨S3x1024x1, .i32⟩
  | 52 => ⟨S3x1024x1, .i1⟩
  | 53 => ⟨S3x1024x1, .i1⟩
  | 54 => ⟨S_, .i1⟩
  | 55 => ⟨S3x1024, .i1⟩
  | 56 => ⟨S3x1024x8192, .f32⟩
  | 57 => ⟨S3x1024x8192, .i1⟩
  | 58 => ⟨S_, .f32⟩
  | 59 => ⟨S3x1024x8192, .f32⟩
  | 60 => ⟨S3x1024x8192, .f32⟩
  | 61 => ⟨S3x8192x1024, .f32⟩
  | 62 => ⟨S24576x1024, .f32⟩
  | _ => ⟨S24576x1024, .f32⟩

abbrev hbmTy (i : Nat) : BufTy := match i / 128 with
  | 0 => hbmTy0_0 i
  | 1 => hbmTy0_1 i
  | _ => ⟨S24576x1024, .f32⟩

abbrev bufTy : (tb : Table) → Fin (tcTables nBuf tb) → BufTy
  | .hbm, ⟨i, _⟩ => hbmTy i
  | _, _ => ⟨S24576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v2 : Ref sig .tc := ⟨.hbm, 26, rfl⟩
abbrev main_v3 : Ref sig .tc := ⟨.hbm, 27, rfl⟩
abbrev main_cst : Ref sig .tc := ⟨.hbm, 28, rfl⟩
abbrev main_v4 : Ref sig .tc := ⟨.hbm, 29, rfl⟩
abbrev main_v5 : Ref sig .tc := ⟨.hbm, 30, rfl⟩
abbrev main_cst_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst_1 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_cst_2 : Ref sig .tc := ⟨.hbm, 42, rfl⟩
abbrev main_v15 : Ref sig .tc := ⟨.hbm, 43, rfl⟩
abbrev main_v16 : Ref sig .tc := ⟨.hbm, 44, rfl⟩
abbrev main_cst_3 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_c : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_4 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_5 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_6 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_7 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_8 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_9 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_10 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_11 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_12 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_13 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_14 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_15 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_16 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_cst_17 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_18 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_19 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_20 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_call1_v0 : Ref sig .tc := ⟨.hbm, 163, rfl⟩
abbrev main_call1_v1_0 : Ref sig .tc := ⟨.hbm, 164, rfl⟩
abbrev main_v116 : Ref sig .tc := ⟨.hbm, 165, rfl⟩
abbrev main_v117 : Ref sig .tc := ⟨.hbm, 166, rfl⟩
abbrev main_call2_c : Ref sig .tc := ⟨.hbm, 167, rfl⟩
abbrev main_call2_v0 : Ref sig .tc := ⟨.hbm, 168, rfl⟩
abbrev main_call2_v1 : Ref sig .tc := ⟨.hbm, 169, rfl⟩
abbrev main_call2_c_0 : Ref sig .tc := ⟨.hbm, 170, rfl⟩
abbrev main_call2_v2 : Ref sig .tc := ⟨.hbm, 171, rfl⟩
abbrev main_call2_v3 : Ref sig .tc := ⟨.hbm, 172, rfl⟩
abbrev main_call2_v4 : Ref sig .tc := ⟨.hbm, 173, rfl⟩
abbrev main_call2_c_1 : Ref sig .tc := ⟨.hbm, 174, rfl⟩
abbrev main_call2_c_2 : Ref sig .tc := ⟨.hbm, 175, rfl⟩
abbrev main_call2_v5 : Ref sig .tc := ⟨.hbm, 176, rfl⟩
abbrev main_call2_v6 : Ref sig .tc := ⟨.hbm, 177, rfl⟩
abbrev main_call2_v7 : Ref sig .tc := ⟨.hbm, 178, rfl⟩
abbrev main_call2_v8 : Ref sig .tc := ⟨.hbm, 179, rfl⟩
abbrev main_call2_v9 : Ref sig .tc := ⟨.hbm, 180, rfl⟩
abbrev main_call2_v10 : Ref sig .tc := ⟨.hbm, 181, rfl⟩
abbrev main_call2_c_3 : Ref sig .tc := ⟨.hbm, 182, rfl⟩
abbrev main_call2_v11 : Ref sig .tc := ⟨.hbm, 183, rfl⟩
abbrev main_call2_v12 : Ref sig .tc := ⟨.hbm, 184, rfl⟩
abbrev main_call2_v13 : Ref sig .tc := ⟨.hbm, 185, rfl⟩
abbrev main_call2_cst : Ref sig .tc := ⟨.hbm, 186, rfl⟩
abbrev main_call2_v14 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩

abbrev nD : Nat := 1
abbrev τ : Topo := Topo.v7x

variable {F : FTy → Type} [FloatOps F]
-- ==== Proof.Stages.lean ====
/- The whitening matrix the kernel computes once per view, as a function of the three buffers it reads: the Gram
   matrix `g`, the column sums `s` and the view's permutation `p`. The kernel's text is printed in parts; here
   every value that crosses from one part to the next gets a name, and `part25_eq` says the parts together are
   three loads followed by those values. -/
module

public import proofs.«01_k».proof.Proof.Gen.KernelIdeal.Skeleton

@[expose] public section

set_option maxRecDepth 65536

noncomputable section

namespace Cert.KernelIdeal.Stage

open Idealize.ShloMosaic Idealize.ShloMosaic.TcCoe Idealize.SL Idealize.SL.Sem Cert.KernelIdeal.Gen

variable {F : FTy → Type} [FloatOps F]

def v45 (g : FVec F S1024x1024 .f32) (s : FVec F S1x1024 .f32) (p : Vec F S1x1x1024 .i32) : FVec F S1024x1024 .bf16 := k0_pay9 p
def v48 (g : FVec F S1024x1024 .f32) (s : FVec F S1x1024 .f32) (p : Vec F S1x1x1024 .i32) : FVec F S1024x1024 .bf16 := k0_pay10 g s p
def v60 (g : FVec F S1024x1024 .f32) (s : FVec F S1x1024 .f32) (p : Vec F S1x1x1024 .i32) : FVec F S16x128 .f32 := k0_pay11 g s p
def v61 (g : FVec F S1024x1024 .f32) (s : FVec F S1x1024 .f32) (p : Vec F S1x1x1024 .i32) : FVec F S1024x128 .bf16 := k0_pay12 p
def v62 (g : FVec F S1024x1024 .f32) (s : FVec F S1x1024 .f32) (p : Vec F S1x1x1024 .i32) : FVec F S1024x128 .bf16 := k0_pay13 g s p
def cst_25 (g : FVec F S1024x1024 .f32) (s : FVec F S1x1024 .f32) (p : Vec F S1x1x1024 .i32) : FVec F S128x128 .f32 := constant S128x128 .f32 0x00000000#32
def v72 (g : FVec F S1024x1024 .f32) (s : FVec F S1x1024 .f32) (p : Vec F S1x1x1024 .i32) : FVec F S16x128 .f32 := k0_pay14 (v61 g s p) (v62 g s p) (cst_25 g s p)
def v84 (g : FVec F S1024x1024 .f32) (s : FVec F S1x1024 .f32) (p : Vec F S1x1x1024 .i32) : FVec F S16x128 .f32 := k0_pay15 (v45 g s p) (v48 g s p)
def v96 (g : FVec F S1024x1024 .f32) (s : FVec F S1x1024 .f32) (p : Vec F S1x1x1024 .i32) : FVec F S16x128 .f32 := k0_pay16 (v45 g s p) (v48 g s p)
def v108 (g : FVec F S1024x1024 .f32) (s : FVec F S1x1024 .f32) (p : Vec F S1x1x1024 .i32) : FVec F S16x128 .f32 := k0_pay17 (v45 g s p) (v48 g s p)
def v111 (g : FVec F S1024x1024 .f32) (s : FVec F S1x1024 .f32) (p : Vec F S1x1x1024 .i32) : FVec F S128x128 .f32 := k0_pay18 (v45 g s p) (v48 g s p)
def v112 (g : FVec F S1024x1024 .f32) (s : FVec F S1x1024 .f32) (p : Vec F S1x1x1024 .i32) : FVec F S16x16 .f32 := k0_pay19 (v45 g s p) (v48 g s p)
def v113 (g : FVec F S1024x1024 .f32) (s : FVec F S1x1024 .f32) (p : Vec F S1x1x1024 .i32) : FVec F S16x16 .f32 := k0_pay20 (v45 g s p) (v48 g s p)
def v114 (g : FVec F S1024x1024 .f32) (s : FVec F S1x1024 .f32) (p : Vec F S1x1x1024 .i32) : FVec F S16x16 .f32 := k0_pay21 (v45 g s p) (v48 g s p)
def v115 (g : FVec F S1024x1024 .f32) (s : FVec F S1x1024 .f32) (p : Vec F S1x1x1024 .i32) : FVec F S16x16 .f32 := k0_pay22 (v45 g s p) (v48 g s p)
def v116 (g : FVec F S1024x1024 .f32) (s : FVec F S1x1024 .f32) (p : Vec F S1x1x1024 .i32) : FVec F S16x16 .f32 := k0_pay23 (v45 g s p) (v48 g s p)
def v117 (g : FVec F S1024x1024 .f32) (s : FVec F S1x1024 .f32) (p : Vec F S1x1x1024 .i32) : FVec F S16x16 .f32 := k0_pay24 (v45 g s p) (v48 g s p)
def v118 (g : FVec F S1024x1024 .f32) (s : FVec F S1x1024 .f32) (p : Vec F S1x1x1024 .i32) : FVec F S16x16 .f32 := k0_pay25 (v45 g s p) (v48 g s p)
def v145 (g : FVec F S1024x1024 .f32) (s : FVec F S1x1024 .f32) (p : Vec F S1x1x1024 .i32) : FVec F S16x1024 .f32 := k0_pay26 (v45 g s p) (v48 g s p) (v60 g s p) (v72 g s p) (v84 g s p) (v96 g s p) (v108 g s p) (v111 g s p) (v112 g s p) (v113 g s p) (v114 g s p) (v115 g s p) (v116 g s p) (v117 g s p) (v118 g s p)
def v156 (g : FVec F S1024x1024 .f32) (s : FVec F S1x1024 .f32) (p : Vec F S1x1x1024 .i32) : FVec F S128x128 .bf16 := k0_pay27 (F := F)
def v160 (g : FVec F S1024x1024 .f32) (s : FVec F S1x1024 .f32) (p : Vec F S1x1x1024 .i32) : FVec F S1x1024 .bf16 := k0_pay28 (v45 g s p) (v48 g s p) (v60 g s p) (v72 g s p) (v84 g s p) (v96 g s p) (v108 g s p) (v111 g s p) (v112 g s p) (v113 g s p) (v114 g s p) (v115 g s p) (v116 g s p) (v117 g s p) (v118 g s p)
def v162 (g : FVec F S1024x1024 .f32) (s : FVec F S1x1024 .f32) (p : Vec F S1x1x1024 .i32) : FVec F S1x128 .f32 := k0_pay29 (v45 g s p) (v48 g s p) (v60 g s p) (v72 g s p) (v84 g s p) (v96 g s p) (v108 g s p) (v111 g s p) (v112 g s p) (v113 g s p) (v114 g s p) (v115 g s p) (v116 g s p) (v117 g s p) (v118 g s p)
def v164 (g : FVec F S1024x1024 .f32) (s : FVec F S1x1024 .f32) (p : Vec F S1x1x1024 .i32) : FVec F S1x128 .f32 := k0_pay30 (v45 g s p) (v48 g s p) (v60 g s p) (v72 g s p) (v84 g s p) (v96 g s p) (v108 g s p) (v111 g s p) (v112 g s p) (v113 g s p) (v114 g s p) (v115 g s p) (v116 g s p) (v117 g s p) (v118 g s p)
def v166 (g : FVec F S1024x1024 .f32) (s : FVec F S1x1024 .f32) (p : Vec F S1x1x1024 .i32) : FVec F S1x128 .f32 := k0_pay31 (v45 g s p) (v48 g s p) (v60 g s p) (v72 g s p) (v84 g s p) (v96 g s p) (v108 g s p) (v111 g s p) (v112 g s p) (v113 g s p) (v114 g s p) (v115 g s p) (v116 g s p) (v117 g s p) (v118 g s p)
def v167 (g : FVec F S1024x1024 .f32) (s : FVec F S1x1024 .f32) (p : Vec F S1x1x1024 .i32) : FVec F S1x128 .bf16 := k0_pay32 (v45 g s p) (v48 g s p) (v60 g s p) (v72 g s p) (v84 g s p) (v96 g s p) (v108 g s p) (v111 g s p) (v112 g s p) (v113 g s p) (v114 g s p) (v115 g s p) (v116 g s p) (v117 g s p) (v118 g s p)
def cst_39 (g : FVec F S1024x1024 .f32) (s : FVec F S1x1024 .f32) (p : Vec F S1x1x1024 .i32) : FVec F S1x128 .f32 := constant S1x128 .f32 0x00000000#32
def v179 (g : FVec F S1024x1024 .f32) (s : FVec F S1x1024 .f32) (p : Vec F S1x1x1024 .i32) : FVec F S1x1024 .f32 := k0_pay33 (v156 g s p) (v160 g s p) (v162 g s p) (v164 g s p) (v166 g s p) (v167 g s p) (cst_39 g s p)
def v188 (g : FVec F S1024x1024 .f32) (s : FVec F S1x1024 .f32) (p : Vec F S1x1x1024 .i32) : FVec F S16x1024 .f32 := k0_pay34 (F := F)
def v191 (g : FVec F S1024x1024 .f32) (s : FVec F S1x1024 .f32) (p : Vec F S1x1x1024 .i32) : FVec F S16x1024 .bf16 := k0_pay35 (v145 g s p) (v156 g s p) (v160 g s p) (v162 g s p) (v164 g s p) (v166 g s p) (v167 g s p) (cst_39 g s p)
def v193 (g : FVec F S1024x1024 .f32) (s : FVec F S1x1024 .f32) (p : Vec F S1x1x1024 .i32) : FVec F S16x1024 .f32 := k0_pay36 (F := F)
def v194 (g : FVec F S1024x1024 .f32) (s : FVec F S1x1024 .f32) (p : Vec F S1x1x1024 .i32) : FVec F S16x1024 .bf16 := k0_pay37 (F := F)
def v199 (g : FVec F S1024x1024 .f32) (s : FVec F S1x1024 .f32) (p : Vec F S1x1x1024 .i32) : FVec F S16x128 .f32 := k0_pay38 (v145 g s p) (v156 g s p) (v160 g s p) (v162 g s p) (v164 g s p) (v166 g s p) (v167 g s p) (cst_39 g s p)
def v204 (g : FVec F S1024x1024 .f32) (s : FVec F S1x1024 .f32) (p : Vec F S1x1x1024 .i32) : FVec F S16x128 .f32 := k0_pay39 (v145 g s p) (v156 g s p) (v160 g s p) (v162 g s p) (v164 g s p) (v166 g s p) (v167 g s p) (cst_39 g s p)
def v209 (g : FVec F S1024x1024 .f32) (s : FVec F S1x1024 .f32) (p : Vec F S1x1x1024 .i32) : FVec F S16x128 .f32 := k0_pay40 (v145 g s p) (v156 g s p) (v160 g s p) (v162 g s p) (v164 g s p) (v166 g s p) (v167 g s p) (cst_39 g s p)
def v214 (g : FVec F S1024x1024 .f32) (s : FVec F S1x1024 .f32) (p : Vec F S1x1x1024 .i32) : FVec F S16x128 .f32 := k0_pay41 (v145 g s p) (v156 g s p) (v160 g s p) (v162 g s p) (v164 g s p) (v166 g s p) (v167 g s p) (cst_39 g s p)
def v215 (g : FVec F S1024x1024 .f32) (s : FVec F S1x1024 .f32) (p : Vec F S1x1x1024 .i32) : FVec F S16x128 .bf16 := k0_pay42 (v145 g s p) (v156 g s p) (v160 g s p) (v162 g s p) (v164 g s p) (v166 g s p) (v167 g s p) (cst_39 g s p)
def v239 (g : FVec F S1024x1024 .f32) (s : FVec F S1x1024 .f32) (p : Vec F S1x1x1024 .i32) : FVec F S16x1024 .bf16 := k0_pay43 (v156 g s p) (v191 g s p) (v193 g s p) (v194 g s p) (v199 g s p) (v204 g s p) (v209 g s p) (v214 g s p) (v215 g s p)
def v244 (g : FVec F S1024x1024 .f32) (s : FVec F S1x1024 .f32) (p : Vec F S1x1x1024 .i32) : FVec F S16x128 .f32 := k0_pay44 (v156 g s p) (v191 g s p) (v193 g s p) (v194 g s p) (v199 g s p) (v204 g s p) (v209 g s p) (v214 g s p) (v215 g s p)
def v249 (g : FVec F S1024x1024 .f32) (s : FVec F S1x1024 .f32) (p : Vec F S1x1x1024 .i32) : FVec F S16x128 .f32 := k0_pay45 (v156 g s p) (v191 g s p) (v193 g s p) (v194 g s p) (v199 g s p) (v204 g s p) (v209 g s p) (v214 g s p) (v215 g s p)
def v254 (g : FVec F S1024x1024 .f32) (s : FVec F S1x1024 .f32) (p : Vec F S1x1x1024 .i32) : FVec F S16x128 .f32 := k0_pay46 (v156 g s p) (v191 g s p) (v193 g s p) (v194 g s p) (v199 g s p) (v204 g s p) (v209 g s p) (v214 g s p) (v215 g s p)
def v259 (g : FVec F S1024x1024 .f32) (s : FVec F S1x1024 .f32) (p : Vec F S1x1x1024 .i32) : FVec F S16x128 .f32 := k0_pay47 (v156 g s p) (v191 g s p) (v193 g s p) (v194 g s p) (v199 g s p) (v204 g s p) (v209 g s p) (v214 g s p) (v215 g s p)
def v264 (g : FVec F S1024x1024 .f32) (s : FVec F S1x1024 .f32) (p : Vec F S1x1x1024 .i32) : FVec F S16x128 .f32 := k0_pay48 (v156 g s p) (v191 g s p) (v193 g s p) (v194 g s p) (v199 g s p) (v204 g s p) (v209 g s p) (v214 g s p) (v215 g s p)
def v265 (g : FVec F S1024x1024 .f32) (s : FVec F S1x1024 .f32) (p : Vec F S1x1x1024 .i32) : FVec F S16x128 .bf16 := k0_pay49 (v191 g s p)
def v280 (g : FVec F S1024x1024 .f32) (s : FVec F S1x1024 .f32) (p : Vec F S1x1x1024 .i32) : FVec F S16x1024 .f32 := k0_pay50 (v156 g s p) (v191 g s p) (v239 g s p) (v244 g s p) (v249 g s p) (v254 g s p) (v259 g s p) (v264 g s p) (v265 g s p)
def v281 (g : FVec F S1024x1024 .f32) (s : FVec F S1x1024 .f32) (p : Vec F S1x1x1024 .i32) : FVec F S16x1024 .bf16 := k0_pay51 (v188 g s p)
def v286 (g : FVec F S1024x1024 .f32) (s : FVec F S1x1024 .f32) (p : Vec F S1x1x1024 .i32) : FVec F S16x128 .f32 := k0_pay52 (v156 g s p) (v188 g s p) (v239 g s p)
def v291 (g : FVec F S1024x1024 .f32) (s : FVec F S1x1024 .f32) (p : Vec F S1x1x1024 .i32) : FVec F S16x128 .f32 := k0_pay53 (v156 g s p) (v188 g s p) (v239 g s p)
def v296 (g : FVec F S1024x1024 .f32) (s : FVec F S1x1024 .f32) (p : Vec F S1x1x1024 .i32) : FVec F S16x128 .f32 := k0_pay54 (v156 g s p) (v188 g s p) (v239 g s p)
def v301 (g : FVec F S1024x1024 .f32) (s : FVec F S1x1024 .f32) (p : Vec F S1x1x1024 .i32) : FVec F S16x128 .f32 := k0_pay55 (v156 g s p) (v188 g s p) (v239 g s p)
def v306 (g : FVec F S1024x1024 .f32) (s : FVec F S1x1024 .f32) (p : Vec F S1x1x1024 .i32) : FVec F S16x128 .f32 := k0_pay56 (v156 g s p) (v188 g s p) (v239 g s p)
def v311 (g : FVec F S1024x1024 .f32) (s : FVec F S1x1024 .f32) (p : Vec F S1x1x1024 .i32) : FVec F S16x128 .f32 := k0_pay57 (v156 g s p) (v188 g s p) (v239 g s p)
def v314 (g : FVec F S1024x1024 .f32) (s : FVec F S1x1024 .f32) (p : Vec F S1x1x1024 .i32) : FVec F S128x128 .bf16 := k0_pay58 (v156 g s p) (v188 g s p)
def v315 (g : FVec F S1024x1024 .f32) (s : FVec F S1x1024 .f32) (p : Vec F S1x1x1024 .i32) : FVec F S16x128 .bf16 := k0_pay59 (v239 g s p)
def cst_70 (g : FVec F S1024x1024 .f32) (s : FVec F S1x1024 .f32) (p : Vec F S1x1x1024 .i32) : FVec F S16x128 .f32 := constant S16x128 .f32 0x00000000#32
def v322 (g : FVec F S1024x1024 .f32) (s : FVec F S1x1024 .f32) (p : Vec F S1x1x1024 .i32) : FVec F S16x1024 .f32 := k0_pay60 (v156 g s p) (v239 g s p) (v281 g s p) (v286 g s p) (v291 g s p) (v296 g s p) (v301 g s p) (v306 g s p) (v311 g s p) (v314 g s p) (v315 g s p) (cst_70 g s p)
def v323 (g : FVec F S1024x1024 .f32) (s : FVec F S1x1024 .f32) (p : Vec F S1x1x1024 .i32) : FVec F S16x1024 .bf16 := k0_pay61 (v280 g s p)
def v325 (g : FVec F S1024x1024 .f32) (s : FVec F S1x1024 .f32) (p : Vec F S1x1x1024 .i32) : FVec F S16x1024 .f32 := k0_pay62 (v188 g s p)
def v331 (g : FVec F S1024x1024 .f32) (s : FVec F S1x1024 .f32) (p : Vec F S1x1x1024 .i32) : FVec F S16x128 .f32 := k0_pay64 (v156 g s p) (v239 g s p) (v280 g s p) (v281 g s p) (v286 g s p) (v291 g s p) (v296 g s p) (v301 g s p) (v306 g s p) (v311 g s p) (v314 g s p) (v315 g s p) (cst_70 g s p)
def v336 (g : FVec F S1024x1024 .f32) (s : FVec F S1x1024 .f32) (p : Vec F S1x1x1024 .i32) : FVec F S16x128 .f32 := k0_pay65 (v156 g s p) (v239 g s p) (v280 g s p) (v281 g s p) (v286 g s p) (v291 g s p) (v296 g s p) (v301 g s p) (v306 g s p) (v311 g s p) (v314 g s p) (v315 g s p) (cst_70 g s p)
def v341 (g : FVec F S1024x1024 .f32) (s : FVec F S1x1024 .f32) (p : Vec F S1x1x1024 .i32) : FVec F S16x128 .f32 := k0_pay66 (v156 g s p) (v239 g s p) (v280 g s p) (v281 g s p) (v286 g s p) (v291 g s p) (v296 g s p) (v301 g s p) (v306 g s p) (v311 g s p) (v314 g s p) (v315 g s p) (cst_70 g s p)
def v346 (g : FVec F S1024x1024 .f32) (s : FVec F S1x1024 .f32) (p : Vec F S1x1x1024 .i32) : FVec F S16x128 .f32 := k0_pay67 (v156 g s p) (v239 g s p) (v280 g s p) (v281 g s p) (v286 g s p) (v291 g s p) (v296 g s p) (v301 g s p) (v306 g s p) (v311 g s p) (v314 g s p) (v315 g s p) (cst_70 g s p)
def v351 (g : FVec F S1024x1024 .f32) (s : FVec F S1x1024 .f32) (p : Vec F S1x1x1024 .i32) : FVec F S16x128 .f32 := k0_pay68 (v156 g s p) (v239 g s p) (v280 g s p) (v281 g s p) (v286 g s p) (v291 g s p) (v296 g s p) (v301 g s p) (v306 g s p) (v311 g s p) (v314 g s p) (v315 g s p) (cst_70 g s p)
def v356 (g : FVec F S1024x1024 .f32) (s : FVec F S1x1024 .f32) (p : Vec F S1x1x1024 .i32) : FVec F S16x128 .f32 := k0_pay69 (v156 g s p) (v239 g s p) (v280 g s p) (v281 g s p) (v286 g s p) (v291 g s p) (v296 g s p) (v301 g s p) (v306 g s p) (v311 g s p) (v314 g s p) (v315 g s p) (cst_70 g s p)
def v361 (g : FVec F S1024x1024 .f32) (s : FVec F S1x1024 .f32) (p : Vec F S1x1x1024 .i32) : FVec F S16x128 .f32 := k0_pay70 (v156 g s p) (v239 g s p) (v280 g s p) (v281 g s p) (v286 g s p) (v291 g s p) (v296 g s p) (v301 g s p) (v306 g s p) (v311 g s p) (v314 g s p) (v315 g s p) (cst_70 g s p)
def v364 (g : FVec F S1024x1024 .f32) (s : FVec F S1x1024 .f32) (p : Vec F S1x1x1024 .i32) : FVec F S128x128 .bf16 := k0_pay71 (v156 g s p) (v280 g s p)
def v365 (g : FVec F S1024x1024 .f32) (s : FVec F S1x1024 .f32) (p : Vec F S1x1x1024 .i32) : FVec F S16x128 .bf16 := k0_pay72 (v156 g s p) (v239 g s p) (v281 g s p) (v286 g s p) (v291 g s p) (v296 g s p) (v301 g s p) (v306 g s p) (v311 g s p) (v314 g s p) (v315 g s p) (cst_70 g s p)
def cst_80 (g : FVec F S1024x1024 .f32) (s : FVec F S1x1024 .f32) (p : Vec F S1x1x1024 .i32) : FVec F S16x128 .f32 := constant S16x128 .f32 0x00000000#32
def v371 (g : FVec F S1024x1024 .f32) (s : FVec F S1x1024 .f32) (p : Vec F S1x1x1024 .i32) : FVec F S16x1024 .bf16 := k0_pay73 (v325 g s p) (v331 g s p) (v336 g s p) (v341 g s p) (v346 g s p) (v351 g s p) (v356 g s p) (v361 g s p) (v364 g s p) (v365 g s p) (cst_80 g s p)
def v412 (g : FVec F S1024x1024 .f32) (s : FVec F S1x1024 .f32) (p : Vec F S1x1x1024 .i32) : FVec F S16x1024 .f32 := k0_pay74 (v156 g s p) (v323 g s p) (v325 g s p) (v331 g s p) (v336 g s p) (v341 g s p) (v346 g s p) (v351 g s p) (v356 g s p) (v361 g s p) (v364 g s p) (v365 g s p) (cst_80 g s p)
def v413 (g : FVec F S1024x1024 .f32) (s : FVec F S1x1024 .f32) (p : Vec F S1x1x1024 .i32) : FVec F S16x1024 .bf16 := k0_pay75 (v322 g s p)
def v416 (g : FVec F S1024x1024 .f32) (s : FVec F S1x1024 .f32) (p : Vec F S1x1x1024 .i32) : FVec F S128x128 .bf16 := k0_pay76 (v156 g s p) (v322 g s p)
def v454 (g : FVec F S1024x1024 .f32) (s : FVec F S1x1024 .f32) (p : Vec F S1x1x1024 .i32) : FVec F S16x1024 .f32 := k0_pay77 (v156 g s p) (v371 g s p) (v413 g s p) (v416 g s p)
def v455 (g : FVec F S1024x1024 .f32) (s : FVec F S1x1024 .f32) (p : Vec F S1x1x1024 .i32) : FVec F S16x1024 .bf16 := k0_pay78 (v412 g s p)
def v457 (g : FVec F S1024x1024 .f32) (s : FVec F S1x1024 .f32) (p : Vec F S1x1x1024 .i32) : FVec F S16x1024 .f32 := k0_pay79 (v188 g s p)
def v458 (g : FVec F S1024x1024 .f32) (s : FVec F S1x1024 .f32) (p : Vec F S1x1x1024 .i32) : FVec F S16x1024 .bf16 := k0_pay80 (v156 g s p) (v371 g s p) (v413 g s p) (v416 g s p)
def v463 (g : FVec F S1024x1024 .f32) (s : FVec F S1x1024 .f32) (p : Vec F S1x1x1024 .i32) : FVec F S16x128 .f32 := k0_pay81 (v156 g s p) (v371 g s p) (v412 g s p) (v413 g s p) (v416 g s p)
def v466 (g : FVec F S1024x1024 .f32) (s : FVec F S1x1024 .f32) (p : Vec F S1x1x1024 .i32) : FVec F S128x128 .bf16 := k0_pay82 (v156 g s p) (v412 g s p)
def v503 (g : FVec F S1024x1024 .f32) (s : FVec F S1x1024 .f32) (p : Vec F S1x1x1024 .i32) : FVec F S16x1024 .bf16 := k0_pay83 (v156 g s p) (v455 g s p) (v457 g s p) (v458 g s p) (v463 g s p) (v466 g s p)
def v508 (g : FVec F S1024x1024 .f32) (s : FVec F S1x1024 .f32) (p : Vec F S1x1x1024 .i32) : FVec F S16x128 .f32 := k0_pay84 (v156 g s p) (v455 g s p) (v457 g s p) (v458 g s p) (v463 g s p) (v466 g s p)
def v513 (g : FVec F S1024x1024 .f32) (s : FVec F S1x1024 .f32) (p : Vec F S1x1x1024 .i32) : FVec F S16x128 .f32 := k0_pay85 (v156 g s p) (v455 g s p) (v457 g s p) (v458 g s p) (v463 g s p) (v466 g s p)
def v516 (g : FVec F S1024x1024 .f32) (s : FVec F S1x1024 .f32) (p : Vec F S1x1x1024 .i32) : FVec F S128x128 .bf16 := k0_pay86 (v156 g s p) (v455 g s p)
def v544 (g : FVec F S1024x1024 .f32) (s : FVec F S1x1024 .f32) (p : Vec F S1x1x1024 .i32) : FVec F S16x1024 .f32 := k0_pay87 (v156 g s p) (v455 g s p) (v503 g s p) (v508 g s p) (v513 g s p) (v516 g s p)
def v545 (g : FVec F S1024x1024 .f32) (s : FVec F S1x1024 .f32) (p : Vec F S1x1x1024 .i32) : FVec F S16x1024 .bf16 := k0_pay88 (v454 g s p)
def v550 (g : FVec F S1024x1024 .f32) (s : FVec F S1x1024 .f32) (p : Vec F S1x1x1024 .i32) : FVec F S16x128 .f32 := k0_pay89 (v156 g s p) (v454 g s p) (v503 g s p)
def v555 (g : FVec F S1024x1024 .f32) (s : FVec F S1x1024 .f32) (p : Vec F S1x1x1024 .i32) : FVec F S16x128 .f32 := k0_pay90 (v156 g s p) (v454 g s p) (v503 g s p)
def v560 (g : FVec F S1024x1024 .f32) (s : FVec F S1x1024 .f32) (p : Vec F S1x1x1024 .i32) : FVec F S16x128 .f32 := k0_pay91 (v156 g s p) (v454 g s p) (v503 g s p)
def v565 (g : FVec F S1024x1024 .f32) (s : FVec F S1x1024 .f32) (p : Vec F S1x1x1024 .i32) : FVec F S16x128 .f32 := k0_pay92 (v156 g s p) (v454 g s p) (v503 g s p)
def v566 (g : FVec F S1024x1024 .f32) (s : FVec F S1x1024 .f32) (p : Vec F S1x1x1024 .i32) : FVec F S16x128 .bf16 := k0_pay93 (v454 g s p)
def v586 (g : FVec F S1024x1024 .f32) (s : FVec F S1x1024 .f32) (p : Vec F S1x1x1024 .i32) : FVec F S16x1024 .f32 := k0_pay94 (v156 g s p) (v503 g s p) (v545 g s p) (v550 g s p) (v555 g s p) (v560 g s p) (v565 g s p) (v566 g s p)
def v587 (g : FVec F S1024x1024 .f32) (s : FVec F S1x1024 .f32) (p : Vec F S1x1x1024 .i32) : FVec F S16x1024 .bf16 := k0_pay95 (v544 g s p)
def v589 (g : FVec F S1024x1024 .f32) (s : FVec F S1x1024 .f32) (p : Vec F S1x1x1024 .i32) : FVec F S16x1024 .f32 := k0_pay96 (v188 g s p)
def v590 (g : FVec F S1024x1024 .f32) (s : FVec F S1x1024 .f32) (p : Vec F S1x1x1024 .i32) : FVec F S16x1024 .bf16 := k0_pay97 (v156 g s p) (v503 g s p) (v545 g s p) (v550 g s p) (v555 g s p) (v560 g s p) (v565 g s p) (v566 g s p)
def v595 (g : FVec F S1024x1024 .f32) (s : FVec F S1x1024 .f32) (p : Vec F S1x1x1024 .i32) : FVec F S16x128 .f32 := k0_pay98 (v156 g s p) (v503 g s p) (v544 g s p) (v545 g s p) (v550 g s p) (v555 g s p) (v560 g s p) (v565 g s p) (v566 g s p)
def v600 (g : FVec F S1024x1024 .f32) (s : FVec F S1x1024 .f32) (p : Vec F S1x1x1024 .i32) : FVec F S16x128 .f32 := k0_pay99 (v156 g s p) (v503 g s p) (v544 g s p) (v545 g s p) (v550 g s p) (v555 g s p) (v560 g s p) (v565 g s p) (v566 g s p)
def v605 (g : FVec F S1024x1024 .f32) (s : FVec F S1x1024 .f32) (p : Vec F S1x1x1024 .i32) : FVec F S16x128 .f32 := k0_pay100 (v156 g s p) (v503 g s p) (v544 g s p) (v545 g s p) (v550 g s p) (v555 g s p) (v560 g s p) (v565 g s p) (v566 g s p)
def v610 (g : FVec F S1024x1024 .f32) (s : FVec F S1x1024 .f32) (p : Vec F S1x1x1024 .i32) : FVec F S16x128 .f32 := k0_pay101 (v156 g s p) (v503 g s p) (v544 g s p) (v545 g s p) (v550 g s p) (v555 g s p) (v560 g s p) (v565 g s p) (v566 g s p)
def v615 (g : FVec F S1024x1024 .f32) (s : FVec F S1x1024 .f32) (p : Vec F S1x1x1024 .i32) : FVec F S16x128 .f32 := k0_pay102 (v156 g s p) (v503 g s p) (v544 g s p) (v545 g s p) (v550 g s p) (v555 g s p) (v560 g s p) (v565 g s p) (v566 g s p)
def v616 (g : FVec F S1024x1024 .f32) (s : FVec F S1x1024 .f32) (p : Vec F S1x1x1024 .i32) : FVec F S16x128 .bf16 := k0_pay103 (v544 g s p)
def v635 (g : FVec F S1024x1024 .f32) (s : FVec F S1x1024 .f32) (p : Vec F S1x1x1024 .i32) : FVec F S16x1024 .bf16 := k0_pay104 (v156 g s p) (v587 g s p) (v589 g s p) (v590 g s p) (v595 g s p) (v600 g s p) (v605 g s p) (v610 g s p) (v615 g s p) (v616 g s p)
def v640 (g : FVec F S1024x1024 .f32) (s : FVec F S1x1024 .f32) (p : Vec F S1x1x1024 .i32) : FVec F S16x128 .f32 := k0_pay105 (v156 g s p) (v587 g s p) (v589 g s p) (v590 g s p) (v595 g s p) (v600 g s p) (v605 g s p) (v610 g s p) (v615 g s p) (v616 g s p)
def v645 (g : FVec F S1024x1024 .f32) (s : FVec F S1x1024 .f32) (p : Vec F S1x1x1024 .i32) : FVec F S16x128 .f32 := k0_pay106 (v156 g s p) (v587 g s p) (v589 g s p) (v590 g s p) (v595 g s p) (v600 g s p) (v605 g s p) (v610 g s p) (v615 g s p) (v616 g s p)
def v650 (g : FVec F S1024x1024 .f32) (s : FVec F S1x1024 .f32) (p : Vec F S1x1x1024 .i32) : FVec F S16x128 .f32 := k0_pay107 (v156 g s p) (v587 g s p) (v589 g s p) (v590 g s p) (v595 g s p) (v600 g s p) (v605 g s p) (v610 g s p) (v615 g s p) (v616 g s p)
def v655 (g : FVec F S1024x1024 .f32) (s : FVec F S1x1024 .f32) (p : Vec F S1x1x1024 .i32) : FVec F S16x128 .f32 := k0_pay108 (v156 g s p) (v587 g s p) (v589 g s p) (v590 g s p) (v595 g s p) (v600 g s p) (v605 g s p) (v610 g s p) (v615 g s p) (v616 g s p)
def v660 (g : FVec F S1024x1024 .f32) (s : FVec F S1x1024 .f32) (p : Vec F S1x1x1024 .i32) : FVec F S16x128 .f32 := k0_pay109 (v156 g s p) (v587 g s p) (v589 g s p) (v590 g s p) (v595 g s p) (v600 g s p) (v605 g s p) (v610 g s p) (v615 g s p) (v616 g s p)
def v665 (g : FVec F S1024x1024 .f32) (s : FVec F S1x1024 .f32) (p : Vec F S1x1x1024 .i32) : FVec F S16x128 .f32 := k0_pay110 (v156 g s p) (v587 g s p) (v589 g s p) (v590 g s p) (v595 g s p) (v600 g s p) (v605 g s p) (v610 g s p) (v615 g s p) (v616 g s p)
def v666 (g : FVec F S1024x1024 .f32) (s : FVec F S1x1024 .f32) (p : Vec F S1x1x1024 .i32) : FVec F S16x128 .bf16 := k0_pay111 (v587 g s p)
def v676 (g : FVec F S1024x1024 .f32) (s : FVec F S1x1024 .f32) (p : Vec F S1x1x1024 .i32) : FVec F S16x1024 .f32 := k0_pay112 (v156 g s p) (v587 g s p) (v635 g s p) (v640 g s p) (v645 g s p) (v650 g s p) (v655 g s p) (v660 g s p) (v665 g s p) (v666 g s p)
def v682 (g : FVec F S1024x1024 .f32) (s : FVec F S1x1024 .f32) (p : Vec F S1x1x1024 .i32) : FVec F S16x128 .f32 := k0_pay114 (v156 g s p) (v586 g s p) (v635 g s p)
def v687 (g : FVec F S1024x1024 .f32) (s : FVec F S1x1024 .f32) (p : Vec F S1x1x1024 .i32) : FVec F S16x128 .f32 := k0_pay115 (v156 g s p) (v586 g s p) (v635 g s p)
def v692 (g : FVec F S1024x1024 .f32) (s : FVec F S1x1024 .f32) (p : Vec F S1x1x1024 .i32) : FVec F S16x128 .f32 := k0_pay116 (v156 g s p) (v586 g s p) (v635 g s p)
def v697 (g : FVec F S1024x1024 .f32) (s : FVec F S1x1024 .f32) (p : Vec F S1x1x1024 .i32) : FVec F S16x128 .f32 := k0_pay117 (v156 g s p) (v586 g s p) (v635 g s p)
def v702 (g : FVec F S1024x1024 .f32) (s : FVec F S1x1024 .f32) (p : Vec F S1x1x1024 .i32) : FVec F S16x128 .f32 := k0_pay118 (v156 g s p) (v586 g s p) (v635 g s p)
def v707 (g : FVec F S1024x1024 .f32) (s : FVec F S1x1024 .f32) (p : Vec F S1x1x1024 .i32) : FVec F S16x128 .f32 := k0_pay119 (v156 g s p) (v586 g s p) (v635 g s p)
def v712 (g : FVec F S1024x1024 .f32) (s : FVec F S1x1024 .f32) (p : Vec F S1x1x1024 .i32) : FVec F S16x128 .f32 := k0_pay120 (v156 g s p) (v586 g s p) (v635 g s p)
def v715 (g : FVec F S1024x1024 .f32) (s : FVec F S1x1024 .f32) (p : Vec F S1x1x1024 .i32) : FVec F S128x128 .bf16 := k0_pay121 (v156 g s p) (v586 g s p)
def v716 (g : FVec F S1024x1024 .f32) (s : FVec F S1x1024 .f32) (p : Vec F S1x1x1024 .i32) : FVec F S16x128 .bf16 := k0_pay122 (v635 g s p)
def cst_149 (g : FVec F S1024x1024 .f32) (s : FVec F S1x1024 .f32) (p : Vec F S1x1x1024 .i32) : FVec F S16x128 .f32 := constant S16x128 .f32 0x00000000#32
def v718 (g : FVec F S1024x1024 .f32) (s : FVec F S1x1024 .f32) (p : Vec F S1x1x1024 .i32) : FVec F S16x1024 .f32 := k0_pay123 (v682 g s p) (v687 g s p) (v692 g s p) (v697 g s p) (v702 g s p) (v707 g s p) (v712 g s p) (v715 g s p) (v716 g s p) (cst_149 g s p)
def v719 (g : FVec F S1024x1024 .f32) (s : FVec F S1x1024 .f32) (p : Vec F S1x1x1024 .i32) : FVec F S16x1024 .bf16 := k0_pay124 (v676 g s p)
def v766 (g : FVec F S1024x1024 .f32) (s : FVec F S1x1024 .f32) (p : Vec F S1x1x1024 .i32) : FVec F S16x1024 .f32 := k0_pay125 (v156 g s p) (v188 g s p) (v676 g s p) (v682 g s p) (v687 g s p) (v692 g s p) (v697 g s p) (v702 g s p) (v707 g s p) (v712 g s p) (v715 g s p) (v716 g s p) (cst_149 g s p)
def v767 (g : FVec F S1024x1024 .f32) (s : FVec F S1x1024 .f32) (p : Vec F S1x1x1024 .i32) : FVec F S16x1024 .bf16 := k0_pay126 (v766 g s p)
def v808 (g : FVec F S1024x1024 .f32) (s : FVec F S1x1024 .f32) (p : Vec F S1x1x1024 .i32) : FVec F S16x1024 .f32 := k0_pay127 (v156 g s p) (v719 g s p) (v766 g s p)
def v809 (g : FVec F S1024x1024 .f32) (s : FVec F S1x1024 .f32) (p : Vec F S1x1x1024 .i32) : FVec F S16x1024 .bf16 := k0_pay128 (v718 g s p)
def v814 (g : FVec F S1024x1024 .f32) (s : FVec F S1x1024 .f32) (p : Vec F S1x1x1024 .i32) : FVec F S16x128 .f32 := k0_pay129 (v156 g s p) (v718 g s p) (v766 g s p)
def v817 (g : FVec F S1024x1024 .f32) (s : FVec F S1x1024 .f32) (p : Vec F S1x1x1024 .i32) : FVec F S128x128 .bf16 := k0_pay130 (v156 g s p) (v718 g s p)
def v850 (g : FVec F S1024x1024 .f32) (s : FVec F S1x1024 .f32) (p : Vec F S1x1x1024 .i32) : FVec F S16x1024 .f32 := k0_pay131 (v156 g s p) (v767 g s p) (v809 g s p) (v814 g s p) (v817 g s p)
def v851 (g : FVec F S1024x1024 .f32) (s : FVec F S1x1024 .f32) (p : Vec F S1x1x1024 .i32) : FVec F S16x1024 .bf16 := k0_pay132 (v808 g s p)
def v853 (g : FVec F S1024x1024 .f32) (s : FVec F S1x1024 .f32) (p : Vec F S1x1x1024 .i32) : FVec F S16x1024 .f32 := k0_pay133 (v188 g s p)
def v854 (g : FVec F S1024x1024 .f32) (s : FVec F S1x1024 .f32) (p : Vec F S1x1x1024 .i32) : FVec F S16x1024 .bf16 := k0_pay134 (v156 g s p) (v767 g s p) (v809 g s p) (v814 g s p) (v817 g s p)
def v859 (g : FVec F S1024x1024 .f32) (s : FVec F S1x1024 .f32) (p : Vec F S1x1x1024 .i32) : FVec F S16x128 .f32 := k0_pay135 (v156 g s p) (v767 g s p) (v808 g s p) (v809 g s p) (v814 g s p) (v817 g s p)
def v864 (g : FVec F S1024x1024 .f32) (s : FVec F S1x1024 .f32) (p : Vec F S1x1x1024 .i32) : FVec F S16x128 .f32 := k0_pay136 (v156 g s p) (v767 g s p) (v808 g s p) (v809 g s p) (v814 g s p) (v817 g s p)
def v867 (g : FVec F S1024x1024 .f32) (s : FVec F S1x1024 .f32) (p : Vec F S1x1x1024 .i32) : FVec F S128x128 .bf16 := k0_pay137 (v156 g s p) (v808 g s p)
def v899 (g : FVec F S1024x1024 .f32) (s : FVec F S1x1024 .f32) (p : Vec F S1x1x1024 .i32) : FVec F S16x1024 .bf16 := k0_pay138 (v156 g s p) (v851 g s p) (v853 g s p) (v854 g s p) (v859 g s p) (v864 g s p) (v867 g s p)
def v904 (g : FVec F S1024x1024 .f32) (s : FVec F S1x1024 .f32) (p : Vec F S1x1x1024 .i32) : FVec F S16x128 .f32 := k0_pay139 (v156 g s p) (v851 g s p) (v853 g s p) (v854 g s p) (v859 g s p) (v864 g s p) (v867 g s p)
def v909 (g : FVec F S1024x1024 .f32) (s : FVec F S1x1024 .f32) (p : Vec F S1x1x1024 .i32) : FVec F S16x128 .f32 := k0_pay140 (v156 g s p) (v851 g s p) (v853 g s p) (v854 g s p) (v859 g s p) (v864 g s p) (v867 g s p)
def v914 (g : FVec F S1024x1024 .f32) (s : FVec F S1x1024 .f32) (p : Vec F S1x1x1024 .i32) : FVec F S16x128 .f32 := k0_pay141 (v156 g s p) (v851 g s p) (v853 g s p) (v854 g s p) (v859 g s p) (v864 g s p) (v867 g s p)
def v917 (g : FVec F S1024x1024 .f32) (s : FVec F S1x1024 .f32) (p : Vec F S1x1x1024 .i32) : FVec F S128x128 .bf16 := k0_pay142 (v156 g s p) (v851 g s p)
def v940 (g : FVec F S1024x1024 .f32) (s : FVec F S1x1024 .f32) (p : Vec F S1x1x1024 .i32) : FVec F S16x1024 .f32 := k0_pay143 (v156 g s p) (v851 g s p) (v899 g s p) (v904 g s p) (v909 g s p) (v914 g s p) (v917 g s p)
def v941 (g : FVec F S1024x1024 .f32) (s : FVec F S1x1024 .f32) (p : Vec F S1x1x1024 .i32) : FVec F S16x1024 .bf16 := k0_pay144 (v850 g s p)
def v946 (g : FVec F S1024x1024 .f32) (s : FVec F S1x1024 .f32) (p : Vec F S1x1x1024 .i32) : FVec F S16x128 .f32 := k0_pay145 (v156 g s p) (v850 g s p) (v899 g s p)
def v951 (g : FVec F S1024x1024 .f32) (s : FVec F S1x1024 .f32) (p : Vec F S1x1x1024 .i32) : FVec F S16x128 .f32 := k0_pay146 (v156 g s p) (v850 g s p) (v899 g s p)
def v956 (g : FVec F S1024x1024 .f32) (s : FVec F S1x1024 .f32) (p : Vec F S1x1x1024 .i32) : FVec F S16x128 .f32 := k0_pay147 (v156 g s p) (v850 g s p) (v899 g s p)
def v961 (g : FVec F S1024x1024 .f32) (s : FVec F S1x1024 .f32) (p : Vec F S1x1x1024 .i32) : FVec F S16x128 .f32 := k0_pay148 (v156 g s p) (v850 g s p) (v899 g s p)
def v966 (g : FVec F S1024x1024 .f32) (s : FVec F S1x1024 .f32) (p : Vec F S1x1x1024 .i32) : FVec F S16x128 .f32 := k0_pay149 (v156 g s p) (v850 g s p) (v899 g s p)
def v967 (g : FVec F S1024x1024 .f32) (s : FVec F S1x1024 .f32) (p : Vec F S1x1x1024 .i32) : FVec F S16x128 .bf16 := k0_pay150 (v850 g s p)
def v982 (g : FVec F S1024x1024 .f32) (s : FVec F S1x1024 .f32) (p : Vec F S1x1x1024 .i32) : FVec F S16x1024 .f32 := k0_pay151 (v156 g s p) (v899 g s p) (v941 g s p) (v946 g s p) (v951 g s p) (v956 g s p) (v961 g s p) (v966 g s p) (v967 g s p)
def v983 (g : FVec F S1024x1024 .f32) (s : FVec F S1x1024 .f32) (p : Vec F S1x1x1024 .i32) : FVec F S16x1024 .bf16 := k0_pay152 (v940 g s p)
def v985 (g : FVec F S1024x1024 .f32) (s : FVec F S1x1024 .f32) (p : Vec F S1x1x1024 .i32) : FVec F S16x1024 .f32 := k0_pay153 (v188 g s p)
def v986 (g : FVec F S1024x1024 .f32) (s : FVec F S1x1024 .f32) (p : Vec F S1x1x1024 .i32) : FVec F S16x1024 .bf16 := k0_pay154 (v156 g s p) (v899 g s p) (v941 g s p) (v946 g s p) (v951 g s p) (v956 g s p) (v961 g s p) (v966 g s p) (v967 g s p)
def v991 (g : FVec F S1024x1024 .f32) (s : FVec F S1x1024 .f32) (p : Vec F S1x1x1024 .i32) : FVec F S16x128 .f32 := k0_pay155 (v156 g s p) (v899 g s p) (v940 g s p) (v941 g s p) (v946 g s p) (v951 g s p) (v956 g s p) (v961 g s p) (v966 g s p) (v967 g s p)
def v996 (g : FVec F S1024x1024 .f32) (s : FVec F S1x1024 .f32) (p : Vec F S1x1x1024 .i32) : FVec F S16x128 .f32 := k0_pay156 (v156 g s p) (v899 g s p) (v940 g s p) (v941 g s p) (v946 g s p) (v951 g s p) (v956 g s p) (v961 g s p) (v966 g s p) (v967 g s p)
def v1001 (g : FVec F S1024x1024 .f32) (s : FVec F S1x1024 .f32) (p : Vec F S1x1x1024 .i32) : FVec F S16x128 .f32 := k0_pay157 (v156 g s p) (v899 g s p) (v940 g s p) (v941 g s p) (v946 g s p) (v951 g s p) (v956 g s p) (v961 g s p) (v966 g s p) (v967 g s p)
def v1006 (g : FVec F S1024x1024 .f32) (s : FVec F S1x1024 .f32) (p : Vec F S1x1x1024 .i32) : FVec F S16x128 .f32 := k0_pay158 (v156 g s p) (v899 g s p) (v940 g s p) (v941 g s p) (v946 g s p) (v951 g s p) (v956 g s p) (v961 g s p) (v966 g s p) (v967 g s p)
def v1011 (g : FVec F S1024x1024 .f32) (s : FVec F S1x1024 .f32) (p : Vec F S1x1x1024 .i32) : FVec F S16x128 .f32 := k0_pay159 (v156 g s p) (v899 g s p) (v940 g s p) (v941 g s p) (v946 g s p) (v951 g s p) (v956 g s p) (v961 g s p) (v966 g s p) (v967 g s p)
def v1016 (g : FVec F S1024x1024 .f32) (s : FVec F S1x1024 .f32) (p : Vec F S1x1x1024 .i32) : FVec F S16x128 .f32 := k0_pay160 (v156 g s p) (v899 g s p) (v940 g s p) (v941 g s p) (v946 g s p) (v951 g s p) (v956 g s p) (v961 g s p) (v966 g s p) (v967 g s p)
def v1017 (g : FVec F S1024x1024 .f32) (s : FVec F S1x1024 .f32) (p : Vec F S1x1x1024 .i32) : FVec F S16x128 .bf16 := k0_pay161 (v940 g s p)
def v1031 (g : FVec F S1024x1024 .f32) (s : FVec F S1x1024 .f32) (p : Vec F S1x1x1024 .i32) : FVec F S16x1024 .bf16 := k0_pay162 (v156 g s p) (v983 g s p) (v985 g s p) (v986 g s p) (v991 g s p) (v996 g s p) (v1001 g s p) (v1006 g s p) (v1011 g s p) (v1016 g s p) (v1017 g s p)
def v1036 (g : FVec F S1024x1024 .f32) (s : FVec F S1x1024 .f32) (p : Vec F S1x1x1024 .i32) : FVec F S16x128 .f32 := k0_pay163 (v156 g s p) (v983 g s p) (v985 g s p) (v986 g s p) (v991 g s p) (v996 g s p) (v1001 g s p) (v1006 g s p) (v1011 g s p) (v1016 g s p) (v1017 g s p)
def v1041 (g : FVec F S1024x1024 .f32) (s : FVec F S1x1024 .f32) (p : Vec F S1x1x1024 .i32) : FVec F S16x128 .f32 := k0_pay164 (v156 g s p) (v983 g s p) (v985 g s p) (v986 g s p) (v991 g s p) (v996 g s p) (v1001 g s p) (v1006 g s p) (v1011 g s p) (v1016 g s p) (v1017 g s p)
def v1046 (g : FVec F S1024x1024 .f32) (s : FVec F S1x1024 .f32) (p : Vec F S1x1x1024 .i32) : FVec F S16x128 .f32 := k0_pay165 (v156 g s p) (v983 g s p) (v985 g s p) (v986 g s p) (v991 g s p) (v996 g s p) (v1001 g s p) (v1006 g s p) (v1011 g s p) (v1016 g s p) (v1017 g s p)
def v1051 (g : FVec F S1024x1024 .f32) (s : FVec F S1x1024 .f32) (p : Vec F S1x1x1024 .i32) : FVec F S16x128 .f32 := k0_pay166 (v156 g s p) (v983 g s p) (v985 g s p) (v986 g s p) (v991 g s p) (v996 g s p) (v1001 g s p) (v1006 g s p) (v1011 g s p) (v1016 g s p) (v1017 g s p)
def v1056 (g : FVec F S1024x1024 .f32) (s : FVec F S1x1024 .f32) (p : Vec F S1x1x1024 .i32) : FVec F S16x128 .f32 := k0_pay167 (v156 g s p) (v983 g s p) (v985 g s p) (v986 g s p) (v991 g s p) (v996 g s p) (v1001 g s p) (v1006 g s p) (v1011 g s p) (v1016 g s p) (v1017 g s p)
def v1061 (g : FVec F S1024x1024 .f32) (s : FVec F S1x1024 .f32) (p : Vec F S1x1x1024 .i32) : FVec F S16x128 .f32 := k0_pay168 (v156 g s p) (v983 g s p) (v985 g s p) (v986 g s p) (v991 g s p) (v996 g s p) (v1001 g s p) (v1006 g s p) (v1011 g s p) (v1016 g s p) (v1017 g s p)
def v1066 (g : FVec F S1024x1024 .f32) (s : FVec F S1x1024 .f32) (p : Vec F S1x1x1024 .i32) : FVec F S16x128 .f32 := k0_pay169 (v156 g s p) (v983 g s p) (v985 g s p) (v986 g s p) (v991 g s p) (v996 g s p) (v1001 g s p) (v1006 g s p) (v1011 g s p) (v1016 g s p) (v1017 g s p)
def v1067 (g : FVec F S1024x1024 .f32) (s : FVec F S1x1024 .f32) (p : Vec F S1x1x1024 .i32) : FVec F S16x128 .bf16 := k0_pay170 (v983 g s p)
def v1114 (g : FVec F S1024x1024 .f32) (s : FVec F S1x1024 .f32) (p : Vec F S1x1x1024 .i32) : FVec F S16x1024 .f32 := k0_pay171 (v156 g s p) (v982 g s p) (v1031 g s p)
def v1115 (g : FVec F S1024x1024 .f32) (s : FVec F S1x1024 .f32) (p : Vec F S1x1x1024 .i32) : FVec F S16x1024 .bf16 := k0_pay172 (v156 g s p) (v1031 g s p) (v1036 g s p) (v1041 g s p) (v1046 g s p) (v1051 g s p) (v1056 g s p) (v1061 g s p) (v1066 g s p) (v1067 g s p)
def v1117 (g : FVec F S1024x1024 .f32) (s : FVec F S1x1024 .f32) (p : Vec F S1x1x1024 .i32) : FVec F S16x1024 .f32 := k0_pay173 (v188 g s p)
def v1163 (g : FVec F S1024x1024 .f32) (s : FVec F S1x1024 .f32) (p : Vec F S1x1x1024 .i32) : FVec F S16x1024 .bf16 := k0_pay174 (v156 g s p) (v1114 g s p) (v1115 g s p) (v1117 g s p)
def v1164 (g : FVec F S1024x1024 .f32) (s : FVec F S1x1024 .f32) (p : Vec F S1x1x1024 .i32) : FVec F S16x1024 .bf16 := k0_pay175 (v1114 g s p)
def v1167 (g : FVec F S1024x1024 .f32) (s : FVec F S1x1024 .f32) (p : Vec F S1x1x1024 .i32) : FVec F S128x128 .bf16 := k0_pay176 (v156 g s p) (v1114 g s p)
def v1168 (g : FVec F S1024x1024 .f32) (s : FVec F S1x1024 .f32) (p : Vec F S1x1x1024 .i32) : FVec F S16x128 .bf16 := k0_pay177 (v156 g s p) (v1114 g s p) (v1115 g s p) (v1117 g s p)
def v1209 (g : FVec F S1024x1024 .f32) (s : FVec F S1x1024 .f32) (p : Vec F S1x1x1024 .i32) : FVec F S16x1024 .bf16 := k0_pay178 (v156 g s p) (v179 g s p) (v1163 g s p) (v1164 g s p) (v1167 g s p) (v1168 g s p)
def v1214 (g : FVec F S1024x1024 .f32) (s : FVec F S1x1024 .f32) (p : Vec F S1x1x1024 .i32) : FVec F S1024x128 .f32 := k0_pay179 (v45 g s p) (v156 g s p) (v179 g s p) (v1163 g s p) (v1164 g s p) (v1167 g s p) (v1168 g s p)
def v1215 (g : FVec F S1024x1024 .f32) (s : FVec F S1x1024 .f32) (p : Vec F S1x1x1024 .i32) : FVec F S1024x128 .bf16 := k0_pay180 (v45 g s p)
def v1218 (g : FVec F S1024x1024 .f32) (s : FVec F S1x1024 .f32) (p : Vec F S1x1x1024 .i32) : FVec F S128x128 .bf16 := k0_pay181 (v156 g s p) (v179 g s p) (v1163 g s p) (v1164 g s p) (v1167 g s p) (v1168 g s p)
def cst_247 (g : FVec F S1024x1024 .f32) (s : FVec F S1x1024 .f32) (p : Vec F S1x1x1024 .i32) : FVec F S1024x128 .f32 := constant S1024x128 .f32 0x00000000#32
def v1219 (g : FVec F S1024x1024 .f32) (s : FVec F S1x1024 .f32) (p : Vec F S1x1x1024 .i32) : FVec F S1024x128 .f32 := k0_pay182 (v1215 g s p) (v1218 g s p) (cst_247 g s p)
def v1224 (g : FVec F S1024x1024 .f32) (s : FVec F S1x1024 .f32) (p : Vec F S1x1x1024 .i32) : FVec F S1024x128 .f32 := k0_pay183 (v45 g s p) (v156 g s p) (v1209 g s p)
def v1229 (g : FVec F S1024x1024 .f32) (s : FVec F S1x1024 .f32) (p : Vec F S1x1x1024 .i32) : FVec F S1024x128 .f32 := k0_pay184 (v45 g s p) (v156 g s p) (v1209 g s p)
def v1234 (g : FVec F S1024x1024 .f32) (s : FVec F S1x1024 .f32) (p : Vec F S1x1x1024 .i32) : FVec F S1024x128 .f32 := k0_pay185 (v45 g s p) (v156 g s p) (v1209 g s p)
def v1239 (g : FVec F S1024x1024 .f32) (s : FVec F S1x1024 .f32) (p : Vec F S1x1x1024 .i32) : FVec F S1024x128 .f32 := k0_pay186 (v45 g s p) (v156 g s p) (v1209 g s p)
def v1244 (g : FVec F S1024x1024 .f32) (s : FVec F S1x1024 .f32) (p : Vec F S1x1x1024 .i32) : FVec F S1024x128 .f32 := k0_pay187 (v45 g s p) (v156 g s p) (v1209 g s p)
def v1245 (g : FVec F S1024x1024 .f32) (s : FVec F S1x1024 .f32) (p : Vec F S1x1x1024 .i32) : FVec F S1024x128 .bf16 := k0_pay188 (v45 g s p)
def v1248 (g : FVec F S1024x1024 .f32) (s : FVec F S1x1024 .f32) (p : Vec F S1x1x1024 .i32) : FVec F S128x128 .bf16 := k0_pay189 (v156 g s p) (v1209 g s p)
def cst_253 (g : FVec F S1024x1024 .f32) (s : FVec F S1x1024 .f32) (p : Vec F S1x1x1024 .i32) : FVec F S1024x128 .f32 := constant S1024x128 .f32 0x00000000#32

/-- The whitening matrix, as stored. -/
def M (g : FVec F S1024x1024 .f32) (s : FVec F S1x1024 .f32) (p : Vec F S1x1x1024 .i32) : FVec F S1024x1024 .bf16 :=
  k0_pay7 (v45 g s p) (v1214 g s p) (v1219 g s p) (v1224 g s p) (v1229 g s p) (v1234 g s p) (v1239 g s p) (v1244 g s p) (v1245 g s p) (v1248 g s p) (cst_253 g s p)

/-- The parts of the matrix's computation together: three loads, then the named values. -/
theorem part25_eq (i : grid0.Coords) (arg2 : Memref sig .tc .vmem S1024x1024 .f32) (harg2 : arg2.IsWhole) (arg3 : Memref sig .tc .vmem S1x1x1024 .i32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .bf16) (harg7 : arg7.IsWhole) :
    k0_part25 (F := F) i arg2 harg2 arg3 harg3 arg4 harg4 arg5 harg5 arg6 harg6 arg7 harg7
      = (do
        let g : Vec F S1024x1024 .f32 ← Prog.lift (.load arg5 (Rect.unit (s := S1024x1024) ![0, 0] S1024x1024.size inb_S1024x1024_S1024x1024_0_0).toLoadRect (View.loadsAt_vmem h_S1024x1024))
        let s : Vec F S1x1024 .f32 ← Prog.lift (.load arg6 (Rect.unit (s := S1x1024) ![0, 0] S1x1024.size inb_S1x1024_S1x1024_0_0).toLoadRect (View.loadsAt_vmem h_S1x1024))
        let p : Vec F S1x1x1024 .i32 ← Prog.lift (.load arg3 (Rect.unit (s := S1x1x1024) ![0, 0, 0] S1x1x1024.size inb_S1x1x1024_S1x1x1024_0_0_0).toLoadRect (View.loadsAt_vmem h_S1x1x1024))
        pure ⟨v45 g s p, v1214 g s p, v1219 g s p, v1224 g s p, v1229 g s p, v1234 g s p, v1239 g s p, v1244 g s p, v1245 g s p, v1248 g s p, cst_253 g s p⟩) := by
  simp only [k0_part25_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  rfl

end Cert.KernelIdeal.Stage

end
-- ==== Proof.Body.lean ====
/- What one run of the kernel's body does to its buffers, in each of the four cases of a grid point: the first block of
   a view, a later block, the last block of a view (where the whitening matrix is also computed), and a block of the
   second sweep (where the output is written). -/
module

public import proofs.«01_k».proof.Proof.Stages
public import proofs.«01_k».proof.Proof.Gen.KernelIdeal.Frame
public import Idealize.ShloMosaic.Lib.VecWindow

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The branch of the first sweep. -/
abbrev isAcc (i : grid0.Coords) : Prop := (Scalar.cmpi .ne (Scalar.extui (Scalar.cmpi .slt (BitVec.ofNat 32 (i 1).val) 8#32)) 0#32) = 1#1
/-- The branch of the view's first block. -/
abbrev isFirst (i : grid0.Coords) : Prop := (Scalar.cmpi .ne (Scalar.extui (Scalar.cmpi .eq (BitVec.ofNat 32 (i 1).val) 0#32)) 0#32) = 1#1
/-- The branch of the later blocks. -/
abbrev isLater (i : grid0.Coords) : Prop := (Scalar.cmpi .ne (Scalar.extui (Scalar.cmpi .ne (BitVec.ofNat 32 (i 1).val) 0#32)) 0#32) = 1#1
/-- The branch of the last block. -/
abbrev isLast (i : grid0.Coords) : Prop := (Scalar.cmpi .ne (Scalar.extui (Scalar.cmpi .eq (BitVec.ofNat 32 (i 1).val) 7#32)) 0#32) = 1#1
/-- The branch of the second sweep. -/
abbrev isOut (i : grid0.Coords) : Prop := k0_cond5 i = 1#1

section
variable (c : Dev nD) (i : grid0.Coords)
  (arg2 : Memref sig .tc .vmem S1024x1024 .f32) (harg2 : arg2.IsWhole) (arg3 : Memref sig .tc .vmem S1x1x1024 .i32) (harg3 : arg3.IsWhole)
  (arg4 : Memref sig .tc .vmem S1024x1024 .f32) (harg4 : arg4.IsWhole) (arg5 : Memref sig .tc .vmem S1024x1024 .f32) (harg5 : arg5.IsWhole)
  (arg6 : Memref sig .tc .vmem S1x1024 .f32) (harg6 : arg6.IsWhole) (arg7 : Memref sig .tc .vmem S1024x1024 .bf16) (harg7 : arg7.IsWhole)

/-- The six buffers of the body at given contents. -/
def bufs (x : Vec F S1024x1024 .f32) (p : Vec F S1x1x1024 .i32) (o : Vec F S1024x1024 .f32) (g : Vec F S1024x1024 .f32)
    (s : Vec F S1x1024 .f32) (d : Vec F S1024x1024 .bf16) : sProp 𝕄 :=
  iprop(owns (c : Thread nD τ) arg2 fullShare x ∗ owns (c : Thread nD τ) arg3 fullShare p ∗ owns (c : Thread nD τ) arg4 fullShare o
    ∗ owns (c : Thread nD τ) arg5 fullShare g ∗ owns (c : Thread nD τ) arg6 fullShare s ∗ owns (c : Thread nD τ) arg7 fullShare d)

variable (x : Vec F S1024x1024 .f32) (p : Vec F S1x1x1024 .i32) (o : Vec F S1024x1024 .f32) (g : Vec F S1024x1024 .f32)
    (s : Vec F S1x1024 .f32) (d : Vec F S1024x1024 .bf16)

include harg2 harg3 harg4 harg5 harg6 harg7

/-- A first block: both accumulators are set. -/
theorem runA (h0 : isAcc i) (h1 : isFirst i) (h2 : ¬isLater i) (h3 : ¬isLast i) (h4 : ¬isOut i) (K : PUnit → sProp 𝕄) :
    iprop(bufs c arg2 arg3 arg4 arg5 arg6 arg7 x p o g s d
        ∗ (bufs c arg2 arg3 arg4 arg5 arg6 arg7 x p o (k0_pay3 x) (k0_pay4 x) d -∗ K ⟨⟩))
      ⊢ wp frame (wpE (defs₀ (F := F)) Variants.none c none) Set.univ (cc0__fused_kernel i arg2 harg2 arg3 harg3 arg4 harg4 arg5 harg5 arg6 harg6 arg7 harg7) K := by
  simp only [cc0__fused_kernel_eq_skeleton]; unfold cc0__fused_kernel_skel
  unfold bufs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | sl_exact h0 | sl_exact h1 | sl_exact h2 | sl_exact h3 | sl_exact h4)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; rw [View.read_writes_full, View.readAt_full, harg2.read_unread]
  isplitl [H4]
  · iexists _; isplitr; swap; · iexact H4
    ipureintro; rw [View.read_writes_full, View.readAt_full, harg2.read_unread]
  iexists _; isplitr; swap; · iexact H5
  ipureintro; exact harg7.read_unread _

/-- A later block: both accumulators are added to. -/
theorem runB (h0 : isAcc i) (h1 : ¬isFirst i) (h2 : isLater i) (h3 : ¬isLast i) (h4 : ¬isOut i) (K : PUnit → sProp 𝕄) :
    iprop(bufs c arg2 arg3 arg4 arg5 arg6 arg7 x p o g s d
        ∗ (bufs c arg2 arg3 arg4 arg5 arg6 arg7 x p o (k0_pay5 x g) (k0_pay6 x s) d -∗ K ⟨⟩))
      ⊢ wp frame (wpE (defs₀ (F := F)) Variants.none c none) Set.univ (cc0__fused_kernel i arg2 harg2 arg3 harg3 arg4 harg4 arg5 harg5 arg6 harg6 arg7 harg7) K := by
  simp only [cc0__fused_kernel_eq_skeleton]; unfold cc0__fused_kernel_skel
  unfold bufs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | sl_exact h0 | sl_exact h1 | sl_exact h2 | sl_exact h3 | sl_exact h4)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; rw [View.read_writes_full, View.readAt_full, View.readAt_full, harg2.read_unread, harg5.read_unread]
  isplitl [H4]
  · iexists _; isplitr; swap; · iexact H4
    ipureintro; rw [View.read_writes_full, View.readAt_full, View.readAt_full, harg2.read_unread, harg6.read_unread]
  iexists _; isplitr; swap; · iexact H5
  ipureintro; exact harg7.read_unread _

/-- The last block: the accumulators are added to, then the whitening matrix is computed. -/
theorem runC (h0 : isAcc i) (h1 : ¬isFirst i) (h2 : isLater i) (h3 : isLast i) (h4 : ¬isOut i) (K : PUnit → sProp 𝕄) :
    iprop(bufs c arg2 arg3 arg4 arg5 arg6 arg7 x p o g s d
        ∗ (bufs c arg2 arg3 arg4 arg5 arg6 arg7 x p o (k0_pay5 x g) (k0_pay6 x s) (Stage.M (k0_pay5 x g) (k0_pay6 x s) p) -∗ K ⟨⟩))
      ⊢ wp frame (wpE (defs₀ (F := F)) Variants.none c none) Set.univ (cc0__fused_kernel i arg2 harg2 arg3 harg3 arg4 harg4 arg5 harg5 arg6 harg6 arg7 harg7) K := by
  simp only [cc0__fused_kernel_eq_skeleton]; unfold cc0__fused_kernel_skel
  simp only [Stage.part25_eq]
  unfold bufs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | sl_exact h0 | sl_exact h1 | sl_exact h2 | sl_exact h3 | sl_exact h4)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; unfold runC.sl.H3_1; rw [View.read_writes_full, View.readAt_full, View.readAt_full, harg2.read_unread, harg5.read_unread]
  isplitl [H4]
  · iexists _; isplitr; swap; · iexact H4
    ipureintro; unfold runC.sl.H4_1; rw [View.read_writes_full, View.readAt_full, View.readAt_full, harg2.read_unread, harg6.read_unread]
  iexists _; isplitr; swap; · iexact H5
  ipureintro
  have hg : runC.sl.g c arg2 harg2 arg5 harg5 x g = k0_pay5 x g := by
    unfold runC.sl.g runC.sl.H3_1
    rw [View.readCov_full, View.readAt_full, View.readAt_full, harg2.read_unread, harg5.read_unread]
  have hs : runC.sl.s c arg2 harg2 arg6 harg6 x s = k0_pay6 x s := by
    unfold runC.sl.s runC.sl.H4_1
    rw [View.readCov_full, View.readAt_full, View.readAt_full, harg2.read_unread, harg6.read_unread]
  rw [View.read_writes_full, hg, hs, View.readAt_full, harg3.read_unread]
  rfl

/-- A block of the second sweep: the output block is written. -/
theorem runD (h0 : ¬isAcc i) (h4 : isOut i) (K : PUnit → sProp 𝕄) :
    iprop(bufs c arg2 arg3 arg4 arg5 arg6 arg7 x p o g s d
        ∗ (bufs c arg2 arg3 arg4 arg5 arg6 arg7 x p (k0_pay8 x s d) g s d -∗ K ⟨⟩))
      ⊢ wp frame (wpE (defs₀ (F := F)) Variants.none c none) Set.univ (cc0__fused_kernel i arg2 harg2 arg3 harg3 arg4 harg4 arg5 harg5 arg6 harg6 arg7 harg7) K := by
  simp only [cc0__fused_kernel_eq_skeleton]; unfold cc0__fused_kernel_skel
  unfold bufs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | sl_exact h0 | sl_exact h4)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; rw [View.read_writes_full, View.readAt_full, View.readAt_full, View.readAt_full, harg2.read_unread, harg6.read_unread, harg7.read_unread]
  isplitl [H3]
  · iexists _; isplitr; swap; · iexact H3
    ipureintro; exact harg5.read_unread _
  isplitl [H4]
  · iexists _; isplitr; swap; · iexact H4
    ipureintro; exact harg6.read_unread _
  iexists _; isplitr; swap; · iexact H5
  ipureintro; exact harg7.read_unread _

end

end Cert.KernelIdeal.Body

end
-- ==== Proof.Launch.lean ====
/- The kernel's run as a whole. Between grid points the three scratch buffers hold the Gram matrix and the column sums
   accumulated over the view's blocks so far and, from the view's last block on, its whitening matrix; each point of the
   second sweep writes one output block from them. From this: every run ends, the arguments unchanged, every counter
   zero, and the output array is the pipeline's assembly of those blocks. -/
module

public import proofs.«01_k».proof.Proof.Body
public import Idealize.ShloMosaic.Lib.Claim

@[expose] public section

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen Cert.KernelIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## Which case a point is in -/

theorem isAcc_iff : ∀ t : Fin cfg0.N, isAcc (grid0.coords t) ↔ t.val % 16 ≤ 7 :=
  (by decide +kernel : ∀ t : Fin grid0.N, isAcc (grid0.coords t) ↔ t.val % 16 ≤ 7)
theorem isFirst_iff : ∀ t : Fin cfg0.N, isFirst (grid0.coords t) ↔ t.val % 16 = 0 :=
  (by decide +kernel : ∀ t : Fin grid0.N, isFirst (grid0.coords t) ↔ t.val % 16 = 0)
theorem isLater_iff : ∀ t : Fin cfg0.N, isLater (grid0.coords t) ↔ 1 ≤ t.val % 16 :=
  (by decide +kernel : ∀ t : Fin grid0.N, isLater (grid0.coords t) ↔ 1 ≤ t.val % 16)
theorem isLast_iff : ∀ t : Fin cfg0.N, isLast (grid0.coords t) ↔ t.val % 16 = 7 :=
  (by decide +kernel : ∀ t : Fin grid0.N, isLast (grid0.coords t) ↔ t.val % 16 = 7)
theorem isOut_iff : ∀ t : Fin cfg0.N, isOut (grid0.coords t) ↔ 8 ≤ t.val % 16 :=
  (by decide +kernel : ∀ t : Fin grid0.N, isOut (grid0.coords t) ↔ 8 ≤ t.val % 16)
/-- The output block is written back exactly at the second sweep's points. -/
theorem flush_iff : ∀ t : Fin cfg0.N, (cfg0.win 2).flush t = true ↔ 8 ≤ t.val % 16 :=
  (by decide +kernel : ∀ t : Fin grid0.N, win0_2.flush t = true ↔ 8 ≤ t.val % 16)

/-! ## What the buffers hold -/

/-- The block of `x` at point `n`. -/
def X (n : ℕ) : Vec F S1024x1024 .f32 := iblk m c 0 ⟨n % 48, lt_of_lt_of_eq (Nat.mod_lt _ (by decide)) N_0.symm⟩
/-- The permutation at point `n`. -/
def Q (n : ℕ) : Vec F S1x1x1024 .i32 := iblk m c 1 ⟨n % 48, lt_of_lt_of_eq (Nat.mod_lt _ (by decide)) N_0.symm⟩

theorem X_val (t : Fin cfg0.N) : X m c t.val = iblk m c 0 t := by
  have ht : t.val < 48 := lt_of_lt_of_eq t.isLt N_0
  have e : (⟨t.val % 48, lt_of_lt_of_eq (Nat.mod_lt _ (by decide)) N_0.symm⟩ : Fin cfg0.N) = t := Fin.ext (Nat.mod_eq_of_lt ht)
  unfold X; rw [e]
theorem Q_val (t : Fin cfg0.N) : Q m c t.val = iblk m c 1 t := by
  have ht : t.val < 48 := lt_of_lt_of_eq t.isLt N_0
  have e : (⟨t.val % 48, lt_of_lt_of_eq (Nat.mod_lt _ (by decide)) N_0.symm⟩ : Fin cfg0.N) = t := Fin.ext (Nat.mod_eq_of_lt ht)
  unfold Q; rw [e]

/-- The Gram accumulator after point `n`. -/
def accG : ℕ → Vec F S1024x1024 .f32
  | 0 => k0_pay3 (X m c 0)
  | n + 1 => if (n + 1) % 16 = 0 then k0_pay3 (X m c (n + 1)) else if (n + 1) % 16 ≤ 7 then k0_pay5 (X m c (n + 1)) (accG n) else accG n
/-- The column sums after point `n`. -/
def accS : ℕ → Vec F S1x1024 .f32
  | 0 => k0_pay4 (X m c 0)
  | n + 1 => if (n + 1) % 16 = 0 then k0_pay4 (X m c (n + 1)) else if (n + 1) % 16 ≤ 7 then k0_pay6 (X m c (n + 1)) (accS n) else accS n
/-- The whitening matrix after point `n` (from the view's last block on). -/
def mat : ℕ → Vec F S1024x1024 .bf16
  | 0 => Stage.M (accG m c 0) (accS m c 0) (Q m c 0)
  | n + 1 => if (n + 1) % 16 ≤ 7 then Stage.M (accG m c (n + 1)) (accS m c (n + 1)) (Q m c (n + 1)) else mat n
/-- The output block of point `n` (of the second sweep). -/
def out (n : ℕ) : Vec F S1024x1024 .f32 := k0_pay8 (X m c n) (accS m c n) (mat m c n)

theorem acc_first {n : ℕ} (h : n % 16 = 0) : accG m c n = k0_pay3 (X m c n) ∧ accS m c n = k0_pay4 (X m c n) := by
  cases n with
  | zero => exact ⟨rfl, rfl⟩
  | succ n => exact ⟨if_pos h, if_pos h⟩
theorem acc_later {n : ℕ} (h0 : (n + 1) % 16 ≠ 0) (h : (n + 1) % 16 ≤ 7) :
    accG m c (n + 1) = k0_pay5 (X m c (n + 1)) (accG m c n) ∧ accS m c (n + 1) = k0_pay6 (X m c (n + 1)) (accS m c n) :=
  ⟨(if_neg h0).trans (if_pos h), (if_neg h0).trans (if_pos h)⟩
theorem acc_out {n : ℕ} (h : 8 ≤ (n + 1) % 16) :
    accG m c (n + 1) = accG m c n ∧ accS m c (n + 1) = accS m c n ∧ mat m c (n + 1) = mat m c n :=
  ⟨(if_neg (by omega)).trans (if_neg (by omega)), (if_neg (by omega)).trans (if_neg (by omega)), if_neg (by omega)⟩
theorem mat_last {n : ℕ} (h : n % 16 ≤ 7) : mat m c n = Stage.M (accG m c n) (accS m c n) (Q m c n) := by
  cases n with
  | zero => rfl
  | succ n => exact if_pos h

/-- What is known of the scratch contents before point `n`. -/
def Inv (n : ℕ) (g : Vec F S1024x1024 .f32) (s : Vec F S1x1024 .f32) (d : Vec F S1024x1024 .bf16) : Prop :=
  match n with
  | 0 => True
  | k + 1 => g = accG m c k ∧ s = accS m c k ∧ (7 ≤ k % 16 → d = mat m c k)

abbrev sc0 : Memref sig .tc .vmem S1024x1024 .f32 := Memref.whole cc0_scratch0
abbrev sc1 : Memref sig .tc .vmem S1x1024 .f32 := Memref.whole cc0_scratch1
abbrev sc2 : Memref sig .tc .vmem S1024x1024 .bf16 := Memref.whole cc0_scratch2

/-- The invariant between points: the scratch owned at contents as `Inv` says, the generator register at some state. -/
def Phi (n : ℕ) : sProp 𝕄 :=
  iprop((∃ g s d, ⌜Inv m c n g s d⌝ ∗ owns (c : Thread nD τ) sc0 fullShare g ∗ owns (c : Thread nD τ) sc1 fullShare s ∗ owns (c : Thread nD τ) sc2 fullShare d)
    ∗ (∃ r, prngReg c r))

theorem PhiA_eq : (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

theorem hin : (Pipeline.ΦA spec0 c : sProp 𝕄) ⊢ Phi m c 0 := by
  rw [PhiA_eq]; unfold Phi
  iintro ⟨⟨⟨%g, H0⟩, ⟨%s, H1⟩, ⟨%d, H2⟩⟩, Hg⟩
  isplitl [H0 H1 H2]
  · iexists g, s, d
    isplitr; · ipureintro; trivial
    isplitl [H0]; · iexact H0
    isplitl [H1]; · iexact H1
    iexact H2
  iexact Hg

theorem hout (n : ℕ) : Phi m c n ⊢ (Pipeline.ΦA spec0 c : sProp 𝕄) := by
  rw [PhiA_eq]; unfold Phi
  iintro ⟨⟨%g, %s, %d, -, H0, H1, H2⟩, Hg⟩
  isplitl [H0 H1 H2]
  · isplitl [H0]; · iexists _; iexact H0
    isplitl [H1]; · iexists _; iexact H1
    iexists _; iexact H2
  iexact Hg

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out m c t.val
  Φ t := Phi m c t.val
  q _ := fullShare
  owed _ := 0

theorem A_eq (w : Fin cfg0.W) : (dats m 0 c).A w = V m c (Pipeline.arrRef spec0 w) := by dsimp only [dats]
theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = out m c t.val := by dsimp only [dats]
theorem before0 (t : Fin cfg0.N) (d) : (dats m 0 c).before 0 t d = iblk m c 0 t :=
  before0_0_of m (dats m 0 c) (A_eq m c 0) (after0 m c) t d
theorem before1 (t : Fin cfg0.N) (d) : (dats m 0 c).before 1 t d = iblk m c 1 t :=
  before0_1_of m (dats m 0 c) (A_eq m c 1) (after1 m c) t d

abbrev ms0 (t : Fin cfg0.N) : Memref sig .tc .vmem S1024x1024 .f32 := win0_0.stage (cfg0.slots t 0)
abbrev ms1 (t : Fin cfg0.N) : Memref sig .tc .vmem S1x1x1024 .i32 := win0_1.stage (cfg0.slots t 1)
abbrev ms2 (t : Fin cfg0.N) : Memref sig .tc .vmem S1024x1024 .f32 := win0_2.stage (cfg0.slots t 2)

/-- What the body leaves in the output's buffer at a point of the first sweep: what it found; -/
theorem leaves2_acc (t : Fin cfg0.N) (h : t.val % 16 ≤ 7) :
    (dats m 0 c).leavesExact 2 t = iprop(∃ d, owns (c : Thread nD τ) (ms2 t) fullShare ((dats m 0 c).before 2 t d)) := by
  refine Dat.leavesExact_idle (dats m 0 c) 2 t ?_ ?_
  · show (!(k0_cond5 (grid0.coords t) == 1#1)) = true
    have := (isOut_iff t).not.mpr (by omega)
    simpa [isOut] using this
  · exact Bool.eq_false_iff.mpr fun e => by have := (flush_iff t).mp e; omega
/-- at a point of the second sweep: the output block. -/
theorem leaves2_out (t : Fin cfg0.N) (h : 8 ≤ t.val % 16) :
    (dats m 0 c).leavesExact 2 t = owns (c : Thread nD τ) (ms2 t) fullShare (out m c t.val) := by
  have hi : cfg0.idle 2 (cfg0.grid.coords t) = false := by
    show (!(k0_cond5 (grid0.coords t) == 1#1)) = false
    have := (isOut_iff t).mpr h
    simpa [isOut] using this
  unfold Dat.leavesExact; rw [hi, after2]

def bodyPre (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

/-- A point, given what the body does to the six buffers there and that this re-establishes the invariant. -/
theorem point (t : Fin cfg0.N)
    (h : ∀ g s d, Inv m c t.val g s d → ∀ dO, ∃ o' g' s' d', Inv m c (t.val + 1) g' s' d' ∧
      (iprop(owns (c : Thread nD τ) (ms2 t) fullShare o') ⊢ (dats m 0 c).leavesExact 2 t) ∧
      ∀ (K : PUnit → sProp 𝕄), iprop(bufs c (ms0 t) (ms1 t) (ms2 t) sc0 sc1 sc2 (iblk m c 0 t) (iblk m c 1 t) ((dats m 0 c).before 2 t dO) g s d
          ∗ (bufs c (ms0 t) (ms1 t) (ms2 t) sc0 sc1 sc2 (iblk m c 0 t) (iblk m c 1 t) o' g' s' d' -∗ K ⟨⟩))
        ⊢ wp frame (wpE (defs₀ (F := F)) Variants.none c none) Set.univ (bodyAt0 t) K) :
    bodyPre m c t ⊢ wp frame (wpE (defs₀ (F := F)) Variants.none c none) Set.univ (bodyAt0 t) (fun _ => bodyPost m c t) := by
  unfold bodyPre bodyPost
  simp only [before0, before1]
  rw [show (dats m 0 c).owesAt () t.succ = (dats m 0 c).owesAt () t.castSucc from rfl]
  rw [show (dats m 0 c).leavesExact 0 t = owns (c : Thread nD τ) (ms0 t) fullShare (iblk m c 0 t) from by
    unfold Dat.leavesExact; rw [show cfg0.idle 0 (cfg0.grid.coords t) = false from rfl, after0]]
  rw [show (dats m 0 c).leavesExact 1 t = owns (c : Thread nD τ) (ms1 t) fullShare (iblk m c 1 t) from by
    unfold Dat.leavesExact; rw [show cfg0.idle 1 (cfg0.grid.coords t) = false from rfl, after1]]
  rw [show (dats m 0 c).Φ t.castSucc = Phi m c t.val from rfl, show (dats m 0 c).Φ t.succ = Phi m c (t.val + 1) from rfl]
  rw [show Phi m c t.val = _ from rfl]
  unfold Phi
  iintro ⟨⟨⟨%g, %s, %d, %hI, HS0, HS1, HS2⟩, Hg⟩, Ho, ⟨%d0, H0⟩, ⟨%d1, H1⟩, ⟨%d2, H2⟩⟩
  obtain ⟨o', g', s', d', hI', hl, hrun⟩ := h g s d hI d2
  iapply (hrun _)
  unfold bufs
  isplitl [H0 H1 H2 HS0 HS1 HS2]
  · isplitl [H0]; · iexact H0
    isplitl [H1]; · iexact H1
    isplitl [H2]; · iexact H2
    isplitl [HS0]; · iexact HS0
    isplitl [HS1]; · iexact HS1
    iexact HS2
  iintro ⟨H0, H1, H2, HS0, HS1, HS2⟩
  isplitl [HS0 HS1 HS2 Hg]
  · isplitl [HS0 HS1 HS2]
    · iexists g', s', d'
      isplitr; · ipureintro; exact hI'
      isplitl [HS0]; · iexact HS0
      isplitl [HS1]; · iexact HS1
      iexact HS2
    iexact Hg
  isplitl [Ho]; · iexact Ho
  isplitl [H0]; · iexact H0
  isplitl [H1]; · iexact H1
  iapply hl
  iexact H2

theorem keeps2 (t : Fin cfg0.N) (h : t.val % 16 ≤ 7) (dO) :
    iprop(owns (c : Thread nD τ) (ms2 t) fullShare ((dats m 0 c).before 2 t dO)) ⊢ (dats m 0 c).leavesExact 2 t := by
  rw [leaves2_acc m c t h]; iintro H; iexists dO; iexact H

/-- The body at any point. -/
theorem sound_body (t : Fin cfg0.N) :
    bodyPre m c t ⊢ wp frame (wpE (defs₀ (F := F)) Variants.none c none) Set.univ (bodyAt0 t) (fun _ => bodyPost m c t) := by
  refine point m c t fun g s d hI dO => ?_
  obtain ⟨n, hn⟩ := t
  have hX : X m c n = iblk m c 0 ⟨n, hn⟩ := X_val m c ⟨n, hn⟩
  have hQ : Q m c n = iblk m c 1 ⟨n, hn⟩ := Q_val m c ⟨n, hn⟩
  by_cases h0 : n % 16 ≤ 7
  · have hk := keeps2 m c ⟨n, hn⟩ h0 dO
    have c0 := (isAcc_iff ⟨n, hn⟩).mpr h0
    have c4 : ¬isOut (grid0.coords ⟨n, hn⟩) := fun e => by have h' := (isOut_iff ⟨n, hn⟩).mp e; have h'' : 8 ≤ n % 16 := h'; omega
    by_cases h1 : n % 16 = 0
    · have c1 := (isFirst_iff ⟨n, hn⟩).mpr h1
      have c2 : ¬isLater (grid0.coords ⟨n, hn⟩) := fun e => by have h' : 1 ≤ n % 16 := (isLater_iff ⟨n, hn⟩).mp e; omega
      have c3 : ¬isLast (grid0.coords ⟨n, hn⟩) := fun e => by have h' : n % 16 = 7 := (isLast_iff ⟨n, hn⟩).mp e; omega
      have e := acc_first m c h1
      rw [hX] at e
      exact ⟨_, _, _, _, ⟨e.1.symm, e.2.symm, fun h => by dsimp only at h; omega⟩, hk, fun K => runA c _ _ _ _ _ _ _ _ _ _ _ _ _ _ _ _ _ _ _ c0 c1 c2 c3 c4 K⟩
    · have c1 : ¬isFirst (grid0.coords ⟨n, hn⟩) := fun e => h1 ((isFirst_iff ⟨n, hn⟩).mp e)
      have c2 : isLater (grid0.coords ⟨n, hn⟩) := (isLater_iff ⟨n, hn⟩).mpr (show 1 ≤ n % 16 by omega)
      obtain ⟨k, rfl⟩ : ∃ k, n = k + 1 := ⟨n - 1, by omega⟩
      obtain ⟨rfl, rfl, -⟩ := hI
      have e := acc_later m c h1 h0
      rw [hX] at e
      by_cases h3 : (k + 1) % 16 = 7
      · have c3 := (isLast_iff ⟨k + 1, hn⟩).mpr h3
        have e3 := mat_last m c h0
        rw [e.1, e.2, hQ] at e3
        exact ⟨_, _, _, _, ⟨e.1.symm, e.2.symm, fun _ => e3.symm⟩, hk, fun K => runC c _ _ _ _ _ _ _ _ _ _ _ _ _ _ _ _ _ _ _ c0 c1 c2 c3 c4 K⟩
      · have c3 : ¬isLast (grid0.coords ⟨k + 1, hn⟩) := fun e => h3 ((isLast_iff ⟨k + 1, hn⟩).mp e)
        exact ⟨_, _, _, _, ⟨e.1.symm, e.2.symm, fun h => by dsimp only at h; omega⟩, hk, fun K => runB c _ _ _ _ _ _ _ _ _ _ _ _ _ _ _ _ _ _ _ c0 c1 c2 c3 c4 K⟩
  · have c0 : ¬isAcc (grid0.coords ⟨n, hn⟩) := fun e => h0 ((isAcc_iff ⟨n, hn⟩).mp e)
    have h4 : 8 ≤ n % 16 := by omega
    have c4 := (isOut_iff ⟨n, hn⟩).mpr h4
    obtain ⟨k, rfl⟩ : ∃ k, n = k + 1 := ⟨n - 1, by omega⟩
    obtain ⟨rfl, rfl, hd⟩ := hI
    obtain rfl := hd (by omega)
    obtain ⟨e1, e2, e3⟩ := acc_out m c h4
    refine ⟨_, _, _, _, ⟨e1.symm, e2.symm, fun _ => e3.symm⟩, ?_, fun K => runD c _ _ _ _ _ _ _ _ _ _ _ _ _ _ _ _ _ _ _ c0 c4 K⟩
    rw [leaves2_out m c ⟨k + 1, hn⟩ h4]
    unfold out
    rw [hX, e2, e3]

theorem defs₀_row (t : Fin cfg0.N) :
    defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := fun c => hout m c _)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- The value: the output array as the pipeline assembles it, the arguments unchanged. -/
theorem value : θ_run defs (onTc (τ := τ) (main (F := F))) ⟨m, fun _ => 0, ρ⟩ (fun r => ∀ c : Dev nD,
      r.2.mem ((c.tc : Thread nD τ).loc main_v1) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.2 c).1 2, (h.1.1 c).1, (h.1.1 c).2⟩)
    (θ_run_and (frame m ρ) ((θ_run defs _ _).mono (fun _ h => h.1) (run_main m ρ)))

end Cert.KernelIdeal.Launch

end
-- ==== Proof.Steps.lean ====
/- The whitening matrix once more, as a composition of a few array functions: the slices of 128 columns the kernel
   works on become one function of the slice's number, the eight Newton–Schulz steps become one function applied
   eight times. Every equation here holds by definition; nothing is computed yet. -/
module

public import proofs.«01_k».proof.Proof.Launch
public import Idealize.ShloMosaic.Lib.Pointwise
public import Idealize.ShloMosaic.Lib.Pipeline.Value

@[expose] public section

set_option maxRecDepth 65536

noncomputable section

namespace Cert.KernelIdeal.Steps

open Idealize.ShloMosaic Idealize.ShloMosaic.TcCoe Idealize.SL Idealize.SL.Sem Cert.KernelIdeal.Gen

variable {F : FTy → Type} [FloatOps F]

theorem slices16 : ∀ q : Fin 8, S16x1024.Slices ![0, 128 * q.val] S16x128 := by decide
theorem slices1 : ∀ q : Fin 8, S1x1024.Slices ![0, 128 * q.val] S1x128 := by decide
theorem slices1024 : ∀ q : Fin 8, S1024x1024.Slices ![0, 128 * q.val] S1024x128 := by decide
theorem slicesDiag : ∀ h : Fin 8, S128x128.Slices ![16 * h.val, 16 * h.val] S16x16 := by decide

/-- Columns `128 q … 128 q + 127` of a row of 64 blocks. -/
def cols16 {φ : FTy} (v : FVec F S16x1024 φ) (q : Fin 8) : FVec F S16x128 φ :=
  extractStridedSlice S16x128 ![0, 128 * q.val] v (slices16 q)
def cols1 {φ : FTy} (v : FVec F S1x1024 φ) (q : Fin 8) : FVec F S1x128 φ :=
  extractStridedSlice S1x128 ![0, 128 * q.val] v (slices1 q)
def cols1024 {φ : FTy} (v : FVec F S1024x1024 φ) (q : Fin 8) : FVec F S1024x128 φ :=
  extractStridedSlice S1024x128 ![0, 128 * q.val] v (slices1024 q)

/-- The slice `q` of a row of blocks as a block diagonal matrix: eight copies on top of each other, masked. -/
def band (v : FVec F S16x1024 .bf16) (q : Fin 8) : FVec F S128x128 .bf16 :=
  mulf (concatenate S128x128 0 (List.ofFn fun _ : Fin 8 => (⟨S16x128, cols16 v q⟩ : (s : Shape) × (s.Idx → F .bf16)))
    concatenates_S16x128_S16x128_S16x128_S16x128_S16x128_S16x128_S16x128_S16x128_S128x128_d0) (k0_pay27 (F := F))

/-- The blockwise product of two rows of blocks. -/
def prod (z y : FVec F S16x1024 .bf16) : FVec F S16x1024 .f32 :=
  concatenate S16x1024 1 (List.ofFn fun q : Fin 8 => (⟨S16x128,
    matmul dot_S16x128_S128x128_S16x128_1_0_0_1_n_n none (cols16 z q) (band y q) (constant S16x128 .f32 0x00000000#32)⟩ :
      (s : Shape) × (s.Idx → F .f32)))
    concatenates_S16x128_S16x128_S16x128_S16x128_S16x128_S16x128_S16x128_S16x128_S16x1024_d1

/-- The factor of one step, `(3/2) 1 - (1/2) z y` blockwise. -/
def factor (z y : FVec F S16x1024 .bf16) : FVec F S16x1024 .bf16 :=
  truncf .bf16 (subf (k0_pay36 (F := F))
    (mulf (broadcast S16x1024 (Scalar.ofBits .f32 0x3F000000#32 : F .f32)) (prod z y))) bitsLt_bf16_f32

/-- One step on the pair `(y, z)`. -/
def step (s : FVec F S16x1024 .bf16 × FVec F S16x1024 .bf16) : FVec F S16x1024 .bf16 × FVec F S16x1024 .bf16 :=
  (truncf .bf16 (prod (factor s.2 s.1) s.1) bitsLt_bf16_f32, truncf .bf16 (prod (factor s.2 s.1) s.2) bitsLt_bf16_f32)

/-- The row of the diagonal blocks of `eᵀ u`. -/
def diag (e u : FVec F S1024x1024 .bf16) : FVec F S16x1024 .f32 :=
  concatenate S16x1024 1 (List.ofFn fun q : Fin 8 => (⟨S16x128,
    concatenate S16x128 1 (List.ofFn fun h : Fin 8 => (⟨S16x16,
      extractStridedSlice S16x16 ![16 * h.val, 16 * h.val]
        (matmul dot_S1024x128_S1024x128_S128x128_0_0_1_1_n_n none (cols1024 e q) (cols1024 u q)
          (constant S128x128 .f32 0x00000000#32)) (slicesDiag h)⟩ : (s : Shape) × (s.Idx → F .f32)))
      concatenates_S16x16_S16x16_S16x16_S16x16_S16x16_S16x16_S16x16_S16x16_S16x128_d1⟩ : (s : Shape) × (s.Idx → F .f32)))
    concatenates_S16x128_S16x128_S16x128_S16x128_S16x128_S16x128_S16x128_S16x128_S16x1024_d1

/-- The sums of squares down the columns. -/
def squares (a : FVec F S16x1024 .f32) : FVec F S1x1024 .bf16 :=
  truncf .bf16 (shapeCast S1x1024
    (multiReduction .add [0] S1024 (mulf a a) 0x00000000#32 reduces_S16x1024_S1024 (.inl rfl) rfl) shapeCasts_S1024_S1x1024)
    bitsLt_bf16_f32

/-- The norm: each block's sum of squares times 1.02, at each of the block's columns. -/
def norms (r : FVec F S1x1024 .bf16) : FVec F S1x1024 .f32 :=
  mulf (concatenate S1x1024 1 (List.ofFn fun q : Fin 8 => (⟨S1x128,
    matmul dot_S1x128_S128x128_S1x128_1_0_0_1_n_n none (cols1 r q) (k0_pay27 (F := F)) (constant S1x128 .f32 0x00000000#32)⟩ :
      (s : Shape) × (s.Idx → F .f32)))
    concatenates_S1x128_S1x128_S1x128_S1x128_S1x128_S1x128_S1x128_S1x128_S1x1024_d1)
    (broadcast S1x1024 (Scalar.ofBits .f32 0x3F828F5C#32 : F .f32))

/-- The first `y`: the covariance blocks over their norms. -/
def start (a : FVec F S16x1024 .f32) : FVec F S16x1024 .bf16 :=
  truncf .bf16 (mulf a (broadcastTo S16x1024
    (divf (broadcast S1x1024 (Scalar.ofBits .f32 0x3F800000#32 : F .f32)) (norms (squares a))) broadcasts_S1x1024_S16x1024))
    bitsLt_bf16_f32

/-- The inverse square roots: eight steps (the eighth without its `y`), over the root of the norm. -/
def roots (a : FVec F S16x1024 .f32) : FVec F S16x1024 .bf16 :=
  let s7 := step (step (step (step (step (step (step (start a, k0_pay37 (F := F))))))))
  truncf .bf16 (mulf (prod (factor s7.2 s7.1) s7.2)
    (broadcastTo S16x1024 (rsqrt (norms (squares a))) broadcasts_S1x1024_S16x1024)) bitsLt_bf16_f32

/-- The roots placed at the permuted rows: `e` times the block diagonal of `w`. -/
def placed (e : FVec F S1024x1024 .bf16) (w : FVec F S16x1024 .bf16) : FVec F S1024x1024 .f32 :=
  concatenate S1024x1024 1 (List.ofFn fun q : Fin 8 => (⟨S1024x128,
    matmul dot_S1024x128_S128x128_S1024x128_1_0_0_1_n_n none (cols1024 e q) (band w q)
      (constant S1024x128 .f32 0x00000000#32)⟩ : (s : Shape) × (s.Idx → F .f32)))
    concatenates_S1024x128_S1024x128_S1024x128_S1024x128_S1024x128_S1024x128_S1024x128_S1024x128_S1024x1024_d1

/-- The roots at the permuted rows and columns: `e · (block diagonal of w) · eᵀ`. -/
def spread (e : FVec F S1024x1024 .bf16) (w : FVec F S16x1024 .bf16) : FVec F S1024x1024 .bf16 :=
  truncf .bf16 (matmul dot_S1024x1024_S1024x1024_S1024x1024_1_1_0_0_n_n none
    (truncf .bf16 (placed e w) bitsLt_bf16_f32) e (constant S1024x1024 .f32 0x00000000#32)) bitsLt_bf16_f32

section Equations
variable (g : FVec F S1024x1024 .f32) (s : FVec F S1x1024 .f32) (p : Vec F S1x1x1024 .i32)
open Stage

theorem v145_eq : v145 g s p = diag (k0_pay9 p) (k0_pay10 g s p) := rfl
theorem v160_eq : v160 g s p = squares (v145 g s p) := rfl
theorem v179_eq : v179 g s p = norms (v160 g s p) := rfl
theorem v191_eq : v191 g s p = start (v145 g s p) := rfl
theorem v194_eq : v194 g s p = k0_pay37 (F := F) := rfl
theorem v239_eq : v239 g s p = factor (v194 g s p) (v191 g s p) := rfl
theorem v323_eq : v323 g s p = truncf .bf16 (prod (v239 g s p) (v191 g s p)) bitsLt_bf16_f32 := rfl
theorem v322_eq : v322 g s p = prod (v239 g s p) (v194 g s p) := rfl
theorem v371_eq : v371 g s p = factor (truncf .bf16 (v322 g s p) bitsLt_bf16_f32) (v323 g s p) := rfl
theorem v455_eq : v455 g s p = truncf .bf16 (prod (v371 g s p) (v323 g s p)) bitsLt_bf16_f32 := rfl
theorem v454_eq : v454 g s p = prod (v371 g s p) (truncf .bf16 (v322 g s p) bitsLt_bf16_f32) := rfl
theorem v503_eq : v503 g s p = factor (truncf .bf16 (v454 g s p) bitsLt_bf16_f32) (v455 g s p) := rfl
theorem v587_eq : v587 g s p = truncf .bf16 (prod (v503 g s p) (v455 g s p)) bitsLt_bf16_f32 := rfl
theorem v586_eq : v586 g s p = prod (v503 g s p) (truncf .bf16 (v454 g s p) bitsLt_bf16_f32) := rfl
theorem v635_eq : v635 g s p = factor (truncf .bf16 (v586 g s p) bitsLt_bf16_f32) (v587 g s p) := rfl
theorem v719_eq : v719 g s p = truncf .bf16 (prod (v635 g s p) (v587 g s p)) bitsLt_bf16_f32 := rfl
theorem v718_eq : v718 g s p = prod (v635 g s p) (truncf .bf16 (v586 g s p) bitsLt_bf16_f32) := rfl
theorem v767_eq : v767 g s p = factor (truncf .bf16 (v718 g s p) bitsLt_bf16_f32) (v719 g s p) := rfl
theorem v851_eq : v851 g s p = truncf .bf16 (prod (v767 g s p) (v719 g s p)) bitsLt_bf16_f32 := rfl
theorem v850_eq : v850 g s p = prod (v767 g s p) (truncf .bf16 (v718 g s p) bitsLt_bf16_f32) := rfl
theorem v899_eq : v899 g s p = factor (truncf .bf16 (v850 g s p) bitsLt_bf16_f32) (v851 g s p) := rfl
theorem v983_eq : v983 g s p = truncf .bf16 (prod (v899 g s p) (v851 g s p)) bitsLt_bf16_f32 := rfl
theorem v982_eq : v982 g s p = prod (v899 g s p) (truncf .bf16 (v850 g s p) bitsLt_bf16_f32) := rfl
theorem v1031_eq : v1031 g s p = factor (truncf .bf16 (v982 g s p) bitsLt_bf16_f32) (v983 g s p) := rfl
theorem v1115_eq : v1115 g s p = truncf .bf16 (prod (v1031 g s p) (v983 g s p)) bitsLt_bf16_f32 := rfl
theorem v1114_eq : v1114 g s p = prod (v1031 g s p) (truncf .bf16 (v982 g s p) bitsLt_bf16_f32) := rfl
theorem v1163_eq : v1163 g s p = factor (truncf .bf16 (v1114 g s p) bitsLt_bf16_f32) (v1115 g s p) := rfl
theorem v1209_eq : v1209 g s p = truncf .bf16 (mulf (prod (v1163 g s p) (truncf .bf16 (v1114 g s p) bitsLt_bf16_f32))
    (broadcastTo S16x1024 (rsqrt (v179 g s p)) broadcasts_S1x1024_S16x1024)) bitsLt_bf16_f32 := rfl
theorem M_eq_spread : M g s p = spread (k0_pay9 p) (v1209 g s p) :=
  show shapeCast S1024x1024 (spread (k0_pay9 p) (v1209 g s p)) shapeCasts_S1024x1024_S1024x1024 = _ from shapeCast_id _ _

/-- The eight steps and the norm, put together. -/
theorem v1209_eq_roots : v1209 g s p = roots (v145 g s p) := by
  rw [v1209_eq, v1163_eq, v1115_eq, v1114_eq, v1031_eq, v983_eq, v982_eq, v899_eq, v851_eq, v850_eq, v767_eq, v719_eq,
    v718_eq, v635_eq, v587_eq, v586_eq, v503_eq, v455_eq, v454_eq, v371_eq, v323_eq, v322_eq, v239_eq, v194_eq, v191_eq,
    v179_eq, v160_eq]
  rfl

/-- The matrix as a function of the Gram matrix, the column sums and the permutation. -/
theorem M_eq : M g s p = spread (k0_pay9 p) (roots (diag (k0_pay9 p) (k0_pay10 g s p))) := by
  rw [M_eq_spread, v1209_eq_roots, v145_eq]

end Equations

end Cert.KernelIdeal.Steps

end
-- ==== Proof.Entries.lean ====
/- The array functions of the whitening matrix read entry by entry at the ideal instance, where every entry is an
   extended real: masked products are sums over one block of sixteen, products with the permutation's matrix are
   gathers. -/
module

public import proofs.«01_k».proof.Proof.Steps

@[expose] public section

set_option maxRecDepth 65536

noncomputable section

namespace Cert.KernelIdeal.Entries

open Idealize.ShloMosaic Idealize.ShloMosaic.TcCoe Idealize.SL Idealize.SL.Sem Cert.KernelIdeal.Gen Cert.KernelIdeal.Steps

/-- The column with number `e` of the sixteen of group `g`. -/
def col (g : Fin 64) (e : Fin 16) : Fin 1024 := ⟨16 * g.val + e.val, by omega⟩
/-- The group of a column, and its number in the group. -/
def grp (c : Fin 1024) : Fin 64 := ⟨c.val / 16, by omega⟩
def pos (c : Fin 1024) : Fin 16 := ⟨c.val % 16, by omega⟩

theorem shr4 : ∀ a : Fin 128, IntOp.shrsi ArithUnit.vector (BitVec.ofNat 32 a.val) 4#32 = BitVec.ofNat 32 (a.val / 16) := by
  decide +kernel

theorem and15 : ∀ a : Fin 1024, IntOp.andi (BitVec.ofNat 32 a.val) 15#32 = BitVec.ofNat 32 (a.val % 16) := by
  decide +kernel

theorem ofNat_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

theorem sel_eq {w : ℕ} {α : Type} (x y : BitVec w) (a b : α) :
    Scalar.select (IntOp.cmpi .eq x y) a b = if x = y then a else b := by
  by_cases h : x = y
  · subst h; rw [IntOp.cmpi_eq_self, if_pos rfl]; rfl
  · rw [if_neg h, show IntOp.cmpi .eq x y = 0#1 from by
      show BitVec.ofBool (x == y) = _; rw [beq_eq_false_iff_ne.2 h]; rfl]; rfl

/-- The mask is one inside the diagonal blocks and zero outside. -/
theorem mask_apply (a b : Fin 128) :
    k0_pay27 (F := Ideal) (ix2 a b) = if a.val / 16 = b.val / 16 then (1 : EReal) else 0 := by
  pointwise [k0_pay27]
  rw [sel_eq, shr4, shr4]
  simp only [ofNat_inj (show a.val / 16 < 2 ^ 32 by omega) (show b.val / 16 < 2 ^ 32 by omega)]

/-- The row of identity blocks. -/
theorem eye_apply (i : Fin 16) (c : Fin 1024) :
    k0_pay34 (F := Ideal) (ix2 i c) = if i = pos c then (1 : EReal) else 0 := by
  pointwise [k0_pay34]
  rw [and15]
  by_cases h : i.val = c.val % 16
  · rw [h, IntOp.cmpi_eq_self, if_pos (Fin.ext h)]
    show (((BitVec.setWidth 32 1#1).toInt : ℝ) : EReal) = 1
    rw [show (BitVec.setWidth 32 1#1).toInt = 1 from by decide]; simp
  · rw [show IntOp.cmpi .eq (BitVec.ofNat 32 i.val) (BitVec.ofNat 32 (c.val % 16)) = 0#1 from by
        show BitVec.ofBool (_ == _) = _
        rw [beq_eq_false_iff_ne.2 (fun e => h ((ofNat_inj (by omega) (by omega)).1 e))]; rfl,
      if_neg (fun e => h (congrArg Fin.val e))]
    show (((BitVec.setWidth 32 0#1).toInt : ℝ) : EReal) = 0
    rw [show (BitVec.setWidth 32 0#1).toInt = 0 from by decide]; simp

/-- The permutation's matrix: column `k` is one at row `p k`. -/
theorem perm_apply (p : Vec Ideal S1x1x1024 .i32) (i k : Fin 1024) :
    k0_pay9 (F := Ideal) p (ix2 i k) = if BitVec.ofNat 32 i.val = p (ix3 0 0 k) then (1 : EReal) else 0 := by
  pointwise [k0_pay9]
  rw [sel_eq]

/-- A sum against a column of the mask keeps one block of sixteen. -/
theorem sum_mask (c : Fin 128) (f g : Fin 128 → EReal) :
    ∑ k, f k * (g k * if k.val / 16 = c.val / 16 then (1 : EReal) else 0)
      = ∑ t : Fin 16, f ⟨16 * (c.val / 16) + t.val, by omega⟩ * g ⟨16 * (c.val / 16) + t.val, by omega⟩ := by
  rw [Fin.sum_univ_tiles 8 16 rfl, Finset.sum_eq_single (⟨c.val / 16, by omega⟩ : Fin 8)]
  · refine Finset.sum_congr rfl fun t _ => ?_
    rw [if_pos (by simp only; omega), mul_one]
    congr 2 <;> · refine Fin.ext ?_; simp only; omega
  · intro j _ hj
    refine Finset.sum_eq_zero fun t _ => ?_
    rw [if_neg, mul_zero, mul_zero]
    intro h; apply hj; refine Fin.ext ?_; simp only at h ⊢; omega
  · intro h; exact absurd (Finset.mem_univ _) h

theorem cols16_apply {φ : FTy} (v : FVec Ideal S16x1024 φ) (q : Fin 8) (i : Fin 16) (c : Fin 128) :
    cols16 v q (ix2 i c) = v (ix2 i ⟨128 * q.val + c.val, by omega⟩) := by
  pointwise [cols16]

theorem cols1_apply {φ : FTy} (v : FVec Ideal S1x1024 φ) (q : Fin 8) (c : Fin 128) :
    cols1 v q (ix2 0 c) = v (ix2 0 ⟨128 * q.val + c.val, by omega⟩) := by
  pointwise [cols1]

theorem cols1024_apply {φ : FTy} (v : FVec Ideal S1024x1024 φ) (q : Fin 8) (i : Fin 1024) (c : Fin 128) :
    cols1024 v q (ix2 i c) = v (ix2 i ⟨128 * q.val + c.val, by omega⟩) := by
  pointwise [cols1024]

theorem band_apply (v : FVec Ideal S16x1024 .bf16) (q : Fin 8) (k c : Fin 128) :
    band v q (ix2 k c) = v (ix2 ⟨k.val % 16, by omega⟩ ⟨128 * q.val + c.val, by omega⟩)
      * if k.val / 16 = c.val / 16 then (1 : EReal) else 0 := by
  rw [band]
  show concatenate S128x128 0 _ _ (ix2 k c) * k0_pay27 (F := Ideal) (ix2 k c) = _
  rw [mask_apply]
  congr 1
  refine (concatenate_ofFn_apply (t := S128x128) (s₁ := S16x128) 0 (fun _ : Fin 8 => cols16 v q) _ rfl 16 rfl (ix2 k c)
    ⟨k.val / 16, by omega⟩ rfl (ix2 ⟨k.val % 16, by omega⟩ c) rfl ?_).trans (cols16_apply _ _ _ _)
  intro b hb
  match b with
  | ⟨0, _⟩ => exact absurd rfl hb
  | ⟨1, _⟩ => rfl

/-- A blockwise product at an entry. -/
theorem prod_apply (z y : FVec Ideal S16x1024 .bf16) (i : Fin 16) (c : Fin 1024) :
    prod z y (ix2 i c) = ∑ k : Fin 16, z (ix2 i (col (grp c) k)) * y (ix2 k c) := by
  rw [prod]
  refine (concatenate_ofFn_apply (t := S16x1024) (s₁ := S16x128) 1 (fun q : Fin 8 => matmul
    dot_S16x128_S128x128_S16x128_1_0_0_1_n_n none (cols16 z q) (band y q) (constant S16x128 .f32 0x00000000#32)) _ rfl 128 rfl
    (ix2 i c) ⟨c.val / 128, by omega⟩ rfl (ix2 i ⟨c.val % 128, by omega⟩) rfl ?_).trans ?_
  · intro b hb
    match b with
    | ⟨0, _⟩ => rfl
    | ⟨1, _⟩ => exact absurd rfl hb
  · generalize hq : (⟨c.val / 128, by omega⟩ : Fin 8) = q
    pointwise
    simp only [cols16_apply, band_apply]
    refine (sum_mask ⟨c.val % 128, by omega⟩ (fun x => z (ix2 i ⟨128 * q.val + x.val, by omega⟩))
      (fun x => y (ix2 ⟨x.val % 16, by omega⟩ ⟨128 * q.val + c.val % 128, by omega⟩))).trans ?_
    subst hq
    refine Finset.sum_congr rfl fun t _ => ?_
    have e1 : (⟨128 * (c.val / 128) + (16 * (c.val % 128 / 16) + t.val), by omega⟩ : Fin 1024) = col (grp c) t :=
      Fin.ext (by simp only [col, grp]; omega)
    have e2 : (⟨(16 * (c.val % 128 / 16) + t.val) % 16, by omega⟩ : Fin 16) = t := Fin.ext (by simp only; omega)
    have e3 : (⟨128 * (c.val / 128) + c.val % 128, by omega⟩ : Fin 1024) = c := Fin.ext (by simp only; omega)
    dsimp only
    rw [e1, e2, e3]

theorem grp_col (g : Fin 64) (e : Fin 16) : grp (col g e) = g := Fin.ext (by simp only [grp, col]; omega)
theorem pos_col (g : Fin 64) (e : Fin 16) : pos (col g e) = e := Fin.ext (by simp only [pos, col]; omega)
theorem col_grp (c : Fin 1024) : col (grp c) (pos c) = c := Fin.ext (by simp only [grp, pos, col]; omega)

/-- The norm's contraction at an entry. -/
theorem norms_apply (r : FVec Ideal S1x1024 .bf16) (c : Fin 1024) :
    norms r (ix2 0 c) = (∑ k : Fin 16, r (ix2 0 (col (grp c) k))) * Ideal.ofBits .f32 0x3F828F5C#32 := by
  rw [norms]
  show concatenate S1x1024 1 _ _ (ix2 0 c) * Ideal.ofBits .f32 0x3F828F5C#32 = _
  congr 1
  refine (concatenate_ofFn_apply (t := S1x1024) (s₁ := S1x128) 1 (fun q : Fin 8 => matmul
    dot_S1x128_S128x128_S1x128_1_0_0_1_n_n none (cols1 r q) (k0_pay27 (F := Ideal)) (constant S1x128 .f32 0x00000000#32)) _ rfl
    128 rfl (ix2 0 c) ⟨c.val / 128, by omega⟩ rfl (ix2 0 ⟨c.val % 128, by omega⟩) rfl ?_).trans ?_
  · intro b hb
    match b with
    | ⟨0, _⟩ => rfl
    | ⟨1, _⟩ => exact absurd rfl hb
  · generalize hq : (⟨c.val / 128, by omega⟩ : Fin 8) = q
    pointwise
    simp only [cols1_apply, mask_apply]
    have h := sum_mask ⟨c.val % 128, by omega⟩ (fun x => r (ix2 0 ⟨128 * q.val + x.val, by omega⟩)) (fun _ => 1)
    simp only [one_mul, mul_one] at h
    refine h.trans ?_
    subst hq
    refine Finset.sum_congr rfl fun t _ => ?_
    have e1 : (⟨128 * (c.val / 128) + (16 * (c.val % 128 / 16) + t.val), by omega⟩ : Fin 1024) = col (grp c) t :=
      Fin.ext (by simp only [col, grp]; omega)
    rw [e1]

theorem squares_apply (a : FVec Ideal S16x1024 .f32) (c : Fin 1024) :
    squares a (ix2 0 c) = ∑ d : Fin 16, a (ix2 d c) * a (ix2 d c) := by
  pointwise [squares]

theorem start_apply (a : FVec Ideal S16x1024 .f32) (i : Fin 16) (c : Fin 1024) :
    start a (ix2 i c) = a (ix2 i c) * Ideal.div 1 (norms (squares a) (ix2 0 c)) := by
  pointwise [start]

/-- A diagonal block of `eᵀ u` at an entry. -/
theorem diag_apply (e u : FVec Ideal S1024x1024 .bf16) (d : Fin 16) (c : Fin 1024) :
    diag e u (ix2 d c) = ∑ i : Fin 1024, e (ix2 i (col (grp c) d)) * u (ix2 i c) := by
  rw [diag]
  let D (q : Fin 8) : FVec Ideal S128x128 .f32 := matmul dot_S1024x128_S1024x128_S128x128_0_0_1_1_n_n none (cols1024 e q)
    (cols1024 u q) (constant S128x128 .f32 0x00000000#32)
  let B (q h : Fin 8) : FVec Ideal S16x16 .f32 :=
    extractStridedSlice S16x16 ![16 * h.val, 16 * h.val] (D q) (slicesDiag h)
  refine (concatenate_ofFn_apply (t := S16x1024) (s₁ := S16x128) 1 (fun q : Fin 8 =>
    concatenate S16x128 1 (List.ofFn fun h : Fin 8 => (⟨S16x16, B q h⟩ : (s : Shape) × (s.Idx → EReal)))
      concatenates_S16x16_S16x16_S16x16_S16x16_S16x16_S16x16_S16x16_S16x16_S16x128_d1) _ rfl
    128 rfl (ix2 d c) ⟨c.val / 128, by omega⟩ rfl (ix2 d ⟨c.val % 128, by omega⟩) rfl ?_).trans ?_
  · intro b hb
    match b with
    | ⟨0, _⟩ => rfl
    | ⟨1, _⟩ => exact absurd rfl hb
  generalize hq : (⟨c.val / 128, by omega⟩ : Fin 8) = q
  refine (concatenate_ofFn_apply (t := S16x128) (s₁ := S16x16) 1 (B q) _ rfl
    16 rfl (ix2 d ⟨c.val % 128, by omega⟩) ⟨c.val % 128 / 16, by omega⟩ rfl (ix2 d ⟨c.val % 128 % 16, by omega⟩) rfl ?_).trans ?_
  · intro b hb
    match b with
    | ⟨0, _⟩ => rfl
    | ⟨1, _⟩ => exact absurd rfl hb
  pointwise [B, D]
  simp only [cols1024_apply]
  subst hq
  refine Finset.sum_congr rfl fun i _ => ?_
  have e1 : (⟨128 * (c.val / 128) + (16 * (c.val % 128 / 16) + d.val), by omega⟩ : Fin 1024) = col (grp c) d :=
    Fin.ext (by simp only [col, grp]; omega)
  have e3 : (⟨128 * (c.val / 128) + (16 * (c.val % 128 / 16) + c.val % 128 % 16), by omega⟩ : Fin 1024) = c :=
    Fin.ext (by simp only; omega)
  rw [e1, e3]

/-- The placed roots at an entry. -/
theorem placed_apply (e : FVec Ideal S1024x1024 .bf16) (w : FVec Ideal S16x1024 .bf16) (i c : Fin 1024) :
    placed e w (ix2 i c) = ∑ t : Fin 16, e (ix2 i (col (grp c) t)) * w (ix2 t c) := by
  rw [placed]
  let D (q : Fin 8) : FVec Ideal S1024x128 .f32 := matmul dot_S1024x128_S128x128_S1024x128_1_0_0_1_n_n none (cols1024 e q)
    (band w q) (constant S1024x128 .f32 0x00000000#32)
  refine (concatenate_ofFn_apply (t := S1024x1024) (s₁ := S1024x128) 1 D _ rfl
    128 rfl (ix2 i c) ⟨c.val / 128, by omega⟩ rfl (ix2 i ⟨c.val % 128, by omega⟩) rfl ?_).trans ?_
  · intro b hb
    match b with
    | ⟨0, _⟩ => rfl
    | ⟨1, _⟩ => exact absurd rfl hb
  generalize hq : (⟨c.val / 128, by omega⟩ : Fin 8) = q
  pointwise [D]
  simp only [cols1024_apply, band_apply]
  refine (sum_mask ⟨c.val % 128, by omega⟩ (fun x => e (ix2 i ⟨128 * q.val + x.val, by omega⟩))
    (fun x => w (ix2 ⟨x.val % 16, by omega⟩ ⟨128 * q.val + c.val % 128, by omega⟩))).trans ?_
  subst hq
  refine Finset.sum_congr rfl fun t _ => ?_
  have e1 : (⟨128 * (c.val / 128) + (16 * (c.val % 128 / 16) + t.val), by omega⟩ : Fin 1024) = col (grp c) t :=
    Fin.ext (by simp only [col, grp]; omega)
  have e2 : (⟨(16 * (c.val % 128 / 16) + t.val) % 16, by omega⟩ : Fin 16) = t := Fin.ext (by simp only; omega)
  have e3 : (⟨128 * (c.val / 128) + c.val % 128, by omega⟩ : Fin 1024) = c := Fin.ext (by simp only; omega)
  dsimp only
  rw [e1, e2, e3]

/-- The spread matrix at an entry. -/
theorem spread_apply (e : FVec Ideal S1024x1024 .bf16) (w : FVec Ideal S16x1024 .bf16) (i j : Fin 1024) :
    spread e w (ix2 i j) = ∑ c : Fin 1024, (∑ t : Fin 16, e (ix2 i (col (grp c) t)) * w (ix2 t c)) * e (ix2 j c) := by
  pointwise [spread]
  simp only [placed_apply]

/-! ### One block at a time -/

/-- Sixteen by sixteen blocks of extended reals. -/
abbrev Blk := Fin 16 → Fin 16 → EReal

def mulB (a b : Blk) : Blk := fun i k => ∑ j, a i j * b j k

/-- The factor of one Newton–Schulz step. -/
def facB (z y : Blk) : Blk := fun i k =>
  Ideal.ofBits .f32 0x3FC00000#32 * (if i = k then 1 else 0) - Ideal.ofBits .f32 0x3F000000#32 * mulB z y i k

/-- One step on the pair `(y, z)`. -/
def stepB (s : Blk × Blk) : Blk × Blk := (mulB (facB s.2 s.1) s.1, mulB (facB s.2 s.1) s.2)

/-- The norm of a block: 1.02 times the sum of its squares. -/
def normB (a : Blk) : EReal := Ideal.ofBits .f32 0x3F828F5C#32 * ∑ d : Fin 16, ∑ e : Fin 16, a d e * a d e

/-- The inverse square root by eight steps. -/
def rootB (a : Blk) : Blk := fun i k =>
  (stepB^[8] (fun d e => a d e * Ideal.div 1 (normB a), fun d e => if d = e then 1 else 0)).2 i k * Ideal.rsqrt (normB a)

/-- Block `g` of a row of blocks. -/
def blk (v : S16x1024.Idx → EReal) (g : Fin 64) : Blk := fun i e => v (ix2 i (col g e))

theorem blk_prod (z y : FVec Ideal S16x1024 .bf16) (g : Fin 64) : blk (prod z y) g = mulB (blk z g) (blk y g) := by
  funext i e
  rw [blk, prod_apply, grp_col]; rfl

theorem blk_eye (g : Fin 64) : blk (k0_pay37 (F := Ideal)) g = fun d e => if d = e then 1 else 0 := by
  funext i e
  show k0_pay34 (F := Ideal) (ix2 i (col g e)) = _
  rw [eye_apply, pos_col]

theorem blk_factor (z y : FVec Ideal S16x1024 .bf16) (g : Fin 64) : blk (factor z y) g = facB (blk z g) (blk y g) := by
  funext i e
  show Ideal.ofBits .f32 0x3FC00000#32 * k0_pay34 (F := Ideal) (ix2 i (col g e))
    - Ideal.ofBits .f32 0x3F000000#32 * blk (prod z y) g i e = _
  rw [eye_apply, pos_col, blk_prod]; rfl

/-- Block `g` of a pair of rows of blocks. -/
def blk2 (s : FVec Ideal S16x1024 .bf16 × FVec Ideal S16x1024 .bf16) (g : Fin 64) : Blk × Blk := (blk s.1 g, blk s.2 g)

theorem blk2_step (s : FVec Ideal S16x1024 .bf16 × FVec Ideal S16x1024 .bf16) (g : Fin 64) :
    blk2 (step s) g = stepB (blk2 s g) := by
  show (blk (prod (factor s.2 s.1) s.1) g, blk (prod (factor s.2 s.1) s.2) g) = _
  rw [blk_prod, blk_prod, blk_factor]; rfl

theorem norms_squares (a : FVec Ideal S16x1024 .f32) (c : Fin 1024) :
    norms (squares a) (ix2 0 c) = normB (blk a (grp c)) := by
  rw [norms_apply, normB, mul_comm, Finset.sum_comm]
  congr 1
  refine Finset.sum_congr rfl fun k _ => ?_
  rw [squares_apply]; rfl

theorem blk_start (a : FVec Ideal S16x1024 .f32) (g : Fin 64) :
    blk (start a) g = fun d e => blk a g d e * Ideal.div 1 (normB (blk a g)) := by
  funext d e
  rw [blk, start_apply, norms_squares, grp_col]; rfl

/-- Every block of the kernel's roots is the inverse square root of the block it came from. -/
theorem blk_roots (a : FVec Ideal S16x1024 .f32) (g : Fin 64) : blk (roots a) g = rootB (blk a g) := by
  funext d e
  let s7 := step (step (step (step (step (step (step (start a, k0_pay37 (F := Ideal))))))))
  have h7 : blk2 s7 g = stepB^[7] (fun d e => blk a g d e * Ideal.div 1 (normB (blk a g)), fun d e => if d = e then 1 else 0) := by
    simp only [s7, blk2_step]
    rw [blk2, blk_start, blk_eye]; rfl
  have h8 : blk (prod (factor s7.2 s7.1) s7.2) g = (stepB (blk2 s7 g)).2 := by
    rw [← blk2_step]; rfl
  have hr : broadcastTo S16x1024 (rsqrt (norms (squares a))) broadcasts_S1x1024_S16x1024 (ix2 d (col g e))
      = Ideal.rsqrt (normB (blk a g)) := by
    pointwise
    rw [norms_squares, grp_col]
  show blk (prod (factor s7.2 s7.1) s7.2) g d e * broadcastTo S16x1024 (rsqrt (norms (squares a))) broadcasts_S1x1024_S16x1024 (ix2 d (col g e)) = _
  rw [h8, hr, h7, rootB, Function.iterate_succ_apply' stepB 7]

end Cert.KernelIdeal.Entries

end
-- ==== Proof.Matrix.lean ====
/- With a permutation `σ` of the feature columns in the kernel's second argument: the covariance blocks it forms are the
   blocks of the covariance of the permuted columns, and multiplying a row by its matrix is the whitening of each group,
   written back at the permuted places. -/
module

public import proofs.«01_k».proof.Proof.Entries

@[expose] public section

set_option maxRecDepth 65536

noncomputable section

namespace Cert.KernelIdeal.Matrix

open Idealize.ShloMosaic Idealize.ShloMosaic.TcCoe Idealize.SL Idealize.SL.Sem Cert.KernelIdeal.Gen Cert.KernelIdeal.Steps
open Cert.KernelIdeal.Entries

/-- The mean of a column from its sum. -/
def muOf (s : FVec Ideal S1x1024 .f32) (i : Fin 1024) : EReal := s (ix2 0 i) * Ideal.ofBits .f32 0x39000000#32

/-- The covariance as the kernel forms it: the Gram entry over the number of rows, less the product of the means in its
    three partial products. -/
def covOf (g : FVec Ideal S1024x1024 .f32) (s : FVec Ideal S1x1024 .f32) (i j : Fin 1024) : EReal :=
  g (ix2 i j) * Ideal.ofBits .f32 0x39000000#32
    - (muOf s i * muOf s j + muOf s i * (muOf s j - muOf s j) + (muOf s i - muOf s i) * muOf s j)

theorem pay10_apply (g : FVec Ideal S1024x1024 .f32) (s : FVec Ideal S1x1024 .f32) (p : Vec Ideal S1x1x1024 .i32)
    (i k : Fin 1024) :
    k0_pay10 (F := Ideal) g s p (ix2 i k) = ∑ j : Fin 1024, covOf g s i j * k0_pay9 (F := Ideal) p (ix2 j k) := by
  pointwise [k0_pay10]
  refine Finset.sum_congr rfl fun j _ => ?_
  rw [Fin.sum_univ_one, Fin.sum_univ_one, Fin.sum_univ_one]
  rfl

variable (σ : Equiv.Perm (Fin 1024)) (p : Vec Ideal S1x1x1024 .i32)

theorem perm_eq (hp : ∀ k : Fin 1024, p (ix3 0 0 k) = BitVec.ofNat 32 (σ k).val) (i k : Fin 1024) :
    k0_pay9 (F := Ideal) p (ix2 i k) = if i = σ k then (1 : EReal) else 0 := by
  rw [perm_apply, hp]
  have h1 := i.isLt
  have h2 := (σ k).isLt
  simp only [ofNat_inj (show i.val < 2 ^ 32 by omega) (show (σ k).val < 2 ^ 32 by omega), Fin.ext_iff]

/-- The blocks the kernel takes the roots of. -/
theorem blk_diag (hp : ∀ k : Fin 1024, p (ix3 0 0 k) = BitVec.ofNat 32 (σ k).val)
    (g : FVec Ideal S1024x1024 .f32) (s : FVec Ideal S1x1024 .f32) (q : Fin 64) :
    blk (diag (k0_pay9 p) (k0_pay10 g s p)) q = fun d e => covOf g s (σ (col q d)) (σ (col q e)) := by
  funext d e
  rw [blk, diag_apply, grp_col]
  simp only [perm_eq σ p hp, pay10_apply]
  simp only [ite_mul, one_mul, zero_mul, mul_ite, mul_one, mul_zero, Finset.sum_ite_eq', Finset.sum_ite_eq, Finset.mem_univ,
    if_true]

/-- A row against the spread roots, at the place `σ c`: the row's group of `c`, permuted, against the group's root. -/
theorem row_spread (hp : ∀ k : Fin 1024, p (ix3 0 0 k) = BitVec.ofNat 32 (σ k).val)
    (w : FVec Ideal S16x1024 .bf16) (f : Fin 1024 → EReal) (c : Fin 1024) :
    ∑ i : Fin 1024, f i * spread (k0_pay9 p) w (ix2 i (σ c))
      = ∑ t : Fin 16, f (σ (col (grp c) t)) * blk w (grp c) t (pos c) := by
  have h : ∀ c' : Fin 1024, spread (k0_pay9 p) w (ix2 (σ c') (σ c))
      = if grp c' = grp c then w (ix2 (pos c') c) else 0 := by
    intro c'
    rw [spread_apply]
    simp only [perm_eq σ p hp, σ.injective.eq_iff]
    simp only [ite_mul, one_mul, zero_mul, mul_ite, mul_one, mul_zero, Finset.sum_ite_eq', Finset.sum_ite_eq, Finset.mem_univ,
      if_true]
    by_cases hg : grp c' = grp c
    · rw [if_pos hg, Finset.sum_eq_single (pos c')]
      · rw [← hg, col_grp, if_pos rfl]
      · intro t _ ht
        rw [if_neg]; rintro rfl; exact ht (pos_col _ _).symm
      · intro h; exact absurd (Finset.mem_univ _) h
    · rw [if_neg hg]
      refine Finset.sum_eq_zero fun t _ => ?_
      rw [if_neg]; rintro rfl; exact hg (grp_col _ _)
  rw [← Equiv.sum_comp σ]
  simp only [h]
  rw [Fin.sum_univ_tiles 64 16 rfl, Finset.sum_eq_single (grp c)]
  · refine Finset.sum_congr rfl fun t _ => ?_
    have e1 : (⟨(grp c).val * 16 + t.val, by omega⟩ : Fin 1024) = col (grp c) t := Fin.ext (by simp only [col]; omega)
    rw [e1, grp_col, if_pos rfl, pos_col, blk, col_grp]
  · intro q _ hq
    refine Finset.sum_eq_zero fun t _ => ?_
    have e1 : (⟨q.val * 16 + t.val, by omega⟩ : Fin 1024) = col q t := Fin.ext (by simp only [col]; omega)
    rw [e1, grp_col, if_neg hq, mul_zero]
  · intro h; exact absurd (Finset.mem_univ _) h

/-- An output block's entry before anything is known of the accumulators. -/
theorem pay8_apply (x : FVec Ideal S1024x1024 .f32) (s : FVec Ideal S1x1024 .f32) (d : FVec Ideal S1024x1024 .bf16)
    (b j : Fin 1024) :
    k0_pay8 (F := Ideal) x s d (ix2 b j) = ∑ i : Fin 1024, (x (ix2 b i) - muOf s i) * d (ix2 i j) := by
  pointwise [k0_pay8]
  rfl

/-- An output block's entry at the place `σ c`. -/
theorem out_apply (hp : ∀ k : Fin 1024, p (ix3 0 0 k) = BitVec.ofNat 32 (σ k).val) (g : FVec Ideal S1024x1024 .f32)
    (x : FVec Ideal S1024x1024 .f32) (s : FVec Ideal S1x1024 .f32) (b c : Fin 1024) :
    k0_pay8 (F := Ideal) x s (Stage.M g s p) (ix2 b (σ c))
      = ∑ t : Fin 16, (x (ix2 b (σ (col (grp c) t))) - muOf s (σ (col (grp c) t)))
          * rootB (fun d e => covOf g s (σ (col (grp c) d)) (σ (col (grp c) e))) t (pos c) := by
  rw [pay8_apply, M_eq, row_spread σ p hp _ (fun i => x (ix2 b i) - muOf s i), blk_roots, blk_diag σ p hp]

/-! ### The accumulators' increments -/

theorem pay3_apply (x : FVec Ideal S1024x1024 .f32) (i j : Fin 1024) :
    k0_pay3 (F := Ideal) x (ix2 i j) = ∑ b : Fin 1024, x (ix2 b i) * x (ix2 b j) := by
  pointwise [k0_pay3, k0_pay1]
theorem pay5_apply (x g : FVec Ideal S1024x1024 .f32) (i j : Fin 1024) :
    k0_pay5 (F := Ideal) x g (ix2 i j) = g (ix2 i j) + ∑ b : Fin 1024, x (ix2 b i) * x (ix2 b j) := by
  pointwise [k0_pay5, k0_pay1]
theorem pay4_apply (x : FVec Ideal S1024x1024 .f32) (i : Fin 1024) :
    k0_pay4 (F := Ideal) x (ix2 0 i) = ∑ b : Fin 1024, x (ix2 b i) := by
  pointwise [k0_pay4, k0_pay2]
theorem pay6_apply (x : FVec Ideal S1024x1024 .f32) (s : FVec Ideal S1x1024 .f32) (i : Fin 1024) :
    k0_pay6 (F := Ideal) x s (ix2 0 i) = s (ix2 0 i) + ∑ b : Fin 1024, x (ix2 b i) := by
  pointwise [k0_pay6, k0_pay2]

end Cert.KernelIdeal.Matrix

end
-- ==== Proof.Array.lean ====
/- The kernel's output array read at a row and a column: the blocks at coordinates, the accumulators as sums over all the
   rows of a view. -/
module

public import proofs.«01_k».proof.Proof.Matrix
public import Idealize.ShloMosaic.Lib.Pipeline.ValueKit

@[expose] public section

set_option maxRecDepth 16384

noncomputable section

namespace Cert.KernelIdeal.Array

open Idealize.ShloMosaic Idealize.ShloMosaic.TcCoe Idealize.SL.Sem
open Idealize.ShloMosaic.Pipeline (Dat)
open Cert.KernelIdeal Cert.KernelIdeal.Gen Cert.KernelIdeal.Launch Cert.KernelIdeal.Matrix Cert.KernelIdeal.Entries

variable (m : (ℓ : Loc nD τ sig) → Buf (Elt Ideal) ℓ) (c : Dev nD)

/-- The two arguments as arrays. -/
def xs : S24576x1024.Idx → EReal := m ((c.tc : Thread nD τ).loc main_arg0)
def ps : S3x1024.Idx → BitVec 32 := m ((c.tc : Thread nD τ).loc main_arg1)

/-- Row `b` of view `s`. -/
def row (s : Fin 3) (b : Fin 8192) : Fin 24576 := ⟨8192 * s.val + b.val, by omega⟩

/-- The windows' block indices at every point. -/
theorem idx : ∀ t : Fin cfg0.N, win0_0.index t = ![8 * (t.val / 16) + t.val % 8, 0]
    ∧ win0_1.index t = ![t.val / 16, 0, 0]
    ∧ win0_2.index t = ![8 * (t.val / 16) + if t.val % 16 < 8 then 0 else t.val % 8, 0] :=
  (by decide +kernel : ∀ t : Fin grid0.N, _)

theorem X_apply (n : ℕ) (hn : n < 48) (b j : Fin 1024) :
    X m c n (ix2 b j) = xs m c (ix2 ⟨8192 * (n / 16) + 1024 * (n % 8) + b.val, by omega⟩ j) := by
  have h := X_val m c ⟨n, lt_of_lt_of_eq hn N_0.symm⟩
  dsimp only at h
  rw [h]
  unfold xs
  blk_ext [iblk, V, idx ⟨n, lt_of_lt_of_eq hn N_0.symm⟩]

theorem Q_apply (n : ℕ) (hn : n < 48) (k : Fin 1024) :
    Q m c n (ix3 0 0 k) = ps m c (ix2 ⟨n / 16, by omega⟩ k) := by
  have h := Q_val m c ⟨n, lt_of_lt_of_eq hn N_0.symm⟩
  dsimp only at h
  rw [h]
  unfold ps
  blk_simp [iblk]
  entry_read
  pointwise
  blk_ext [idx ⟨n, lt_of_lt_of_eq hn N_0.symm⟩]

/-- The output array by rows and columns. -/
def G : S24576x1024.Idx → EReal := fun i =>
  out m c (16 * ((i 0).val / 8192) + 8 + (i 0).val % 8192 / 1024) (ix2 ⟨(i 0).val % 1024, by omega⟩ (i 1))

theorem G_of (n : ℕ) (hn : 8 ≤ n % 16) (i : S24576x1024.Idx) (y : S1024x1024.Idx)
    (h0 : (i 0 : ℕ) = 8192 * (n / 16) + 1024 * (n % 8) + (y 0 : ℕ)) (h1 : (i 1 : ℕ) = (y 1 : ℕ)) : out m c n y = G m c i := by
  have hy : (y 0 : ℕ) < 1024 := (y 0).isLt
  unfold G
  have e : 16 * ((i 0).val / 8192) + 8 + (i 0).val % 8192 / 1024 = n := by rw [h0]; omega
  rw [e]
  congr 1
  refine (eq_ix2 y).trans ((ix2_inj ..).2 ⟨Fin.ext ?_, Fin.ext h1.symm⟩)
  show (y 0 : ℕ) = (i 0 : ℕ) % 1024
  rw [h0]; omega

theorem final : (dats m 0 c).arrAt 2 cfg0.N = G m c := by
  refine (dats m 0 c).arrAt_eq_of_covers 2 _ (by decide +kernel) fun t hf y => ?_
  have hf' := (flush_iff t).mp hf
  blk_simp
  rw [after2]
  refine G_of m c t.val hf' _ y ?_ ?_
  · blk_simp [idx t]
    rw [if_neg (by omega)]
    omega
  · blk_simp [idx t]

/-! ## The accumulators -/

/-- The accumulators after the view's block `r`, as sums over the blocks so far. -/
theorem acc_sum (s : ℕ) (r : ℕ) (hr : r ≤ 7) :
    (∀ i j : Fin 1024, accG m c (16 * s + r) (ix2 i j)
      = ∑ q ∈ Finset.range (r + 1), ∑ b : Fin 1024, (X m c (16 * s + q) (ix2 b i) * X m c (16 * s + q) (ix2 b j) : EReal))
    ∧ ∀ i : Fin 1024, accS m c (16 * s + r) (ix2 0 i)
      = ∑ q ∈ Finset.range (r + 1), ∑ b : Fin 1024, (X m c (16 * s + q) (ix2 b i) : EReal) := by
  induction r with
  | zero =>
    have e := acc_first m c (n := 16 * s + 0) (by omega)
    rw [e.1, e.2]
    refine ⟨fun i j => ?_, fun i => ?_⟩
    · rw [Finset.sum_range_one]; exact pay3_apply _ i j
    · rw [Finset.sum_range_one]; exact pay4_apply _ i
  | succ r ih =>
    have ih := ih (by omega)
    have e := acc_later m c (n := 16 * s + r) (by omega) (by omega)
    rw [show 16 * s + (r + 1) = 16 * s + r + 1 from rfl, e.1, e.2]
    refine ⟨fun i j => ?_, fun i => ?_⟩
    · rw [Finset.sum_range_succ, ← ih.1]; exact pay5_apply _ _ i j
    · rw [Finset.sum_range_succ, ← ih.2]; exact pay6_apply _ _ i

/-- A sum over the eight blocks is a sum over the rows of the view. -/
theorem sum_rows (s : Fin 3) (f : Fin 24576 → EReal) (g : ℕ → Fin 1024 → EReal)
    (h : ∀ q < 8, ∀ b : Fin 1024, ∀ hb : 8192 * s.val + 1024 * q + b.val < 24576, g q b = f ⟨8192 * s.val + 1024 * q + b.val, hb⟩) :
    ∑ q ∈ Finset.range 8, ∑ b, g q b = ∑ b : Fin 8192, f (row s b) := by
  rw [Fin.sum_univ_tiles 8 1024 rfl, Finset.sum_range]
  refine Finset.sum_congr rfl fun q _ => Finset.sum_congr rfl fun b _ => ?_
  rw [h q.val q.isLt b (by omega)]
  congr 1
  exact Fin.ext (by simp only [row]; omega)

/-- The Gram matrix and the column sums of view `s`. -/
def gram (s : Fin 3) (i j : Fin 1024) : EReal := ∑ b : Fin 8192, xs m c (ix2 (row s b) i) * xs m c (ix2 (row s b) j)
def sums (s : Fin 3) (i : Fin 1024) : EReal := ∑ b : Fin 8192, xs m c (ix2 (row s b) i)

theorem accG_apply (s : Fin 3) (i j : Fin 1024) : accG m c (16 * s.val + 7) (ix2 i j) = gram m c s i j := by
  rw [(acc_sum m c s.val 7 le_rfl).1 i j]
  refine sum_rows s (fun b => xs m c (ix2 b i) * xs m c (ix2 b j)) (fun q b => _) fun q hq b hb => ?_
  have e : 8192 * ((16 * s.val + q) / 16) + 1024 * ((16 * s.val + q) % 8) + b.val = 8192 * s.val + 1024 * q + b.val := by omega
  rw [X_apply m c _ (by omega), X_apply m c _ (by omega)]
  simp only [e]
theorem accS_apply (s : Fin 3) (i : Fin 1024) : accS m c (16 * s.val + 7) (ix2 0 i) = sums m c s i := by
  rw [(acc_sum m c s.val 7 le_rfl).2 i]
  refine sum_rows s (fun b => xs m c (ix2 b i)) (fun q b => _) fun q hq b hb => ?_
  have e : 8192 * ((16 * s.val + q) / 16) + 1024 * ((16 * s.val + q) % 8) + b.val = 8192 * s.val + 1024 * q + b.val := by omega
  rw [X_apply m c _ (by omega)]
  simp only [e]

/-- The second sweep changes none of the three. -/
theorem acc_keep (s r : ℕ) (hr : r ≤ 8) :
    accS m c (16 * s + 7 + r) = accS m c (16 * s + 7) ∧ mat m c (16 * s + 7 + r) = mat m c (16 * s + 7) := by
  induction r with
  | zero => exact ⟨rfl, rfl⟩
  | succ r ih =>
    have e := acc_out m c (n := 16 * s + 7 + r) (by omega)
    exact ⟨e.2.1.trans (ih (by omega)).1, e.2.2.trans (ih (by omega)).2⟩

/-- The mean of column `i` in view `s`, and the covariance of two columns, as the kernel has them. -/
def mean (s : Fin 3) (i : Fin 1024) : EReal := sums m c s i * Ideal.ofBits .f32 0x39000000#32
def cov (s : Fin 3) (i j : Fin 1024) : EReal := gram m c s i j * Ideal.ofBits .f32 0x39000000#32
  - (mean m c s i * mean m c s j + mean m c s i * (mean m c s j - mean m c s j) + (mean m c s i - mean m c s i) * mean m c s j)

/-- The kernel's output array at row `b` of view `s` and column `σ k`, `σ` the view's permutation. -/
theorem G_apply (s : Fin 3) (σ : Equiv.Perm (Fin 1024))
    (hp : ∀ k : Fin 1024, ps m c (ix2 s k) = BitVec.ofNat 32 (σ k).val) (b : Fin 8192) (k : Fin 1024) :
    G m c (ix2 (row s b) (σ k)) = ∑ t : Fin 16, (xs m c (ix2 (row s b) (σ (col (grp k) t))) - mean m c s (σ (col (grp k) t)))
      * rootB (fun d e => cov m c s (σ (col (grp k) d)) (σ (col (grp k) e))) t (pos k) := by
  let n := 16 * s.val + 7 + (1 + b.val / 1024)
  have hn : n < 48 := by omega
  have hG := G_of m c n (by omega) (ix2 (row s b) (σ k)) (ix2 ⟨b.val % 1024, by omega⟩ (σ k))
    (by show 8192 * s.val + b.val = 8192 * (n / 16) + 1024 * (n % 8) + b.val % 1024; omega) rfl
  rw [← hG]
  unfold out
  have hk := acc_keep m c s.val (1 + b.val / 1024) (by omega)
  rw [show accS m c n = _ from hk.1, show mat m c n = _ from hk.2, mat_last m c (n := 16 * s.val + 7) (by omega)]
  have hp' : ∀ k : Fin 1024, Q m c (16 * s.val + 7) (ix3 0 0 k) = BitVec.ofNat 32 (σ k).val := by
    intro k
    rw [Q_apply m c _ (by omega), ← hp k]
    have e : (16 * s.val + 7) / 16 = s.val := by omega
    simp only [e]
  rw [out_apply σ _ hp']
  have hmu : ∀ i, muOf (accS m c (16 * s.val + 7)) i = mean m c s i := fun i => by rw [muOf, accS_apply]; rfl
  have hcov : ∀ i j, covOf (accG m c (16 * s.val + 7)) (accS m c (16 * s.val + 7)) i j = cov m c s i j := fun i j => by
    rw [covOf, accG_apply, hmu, hmu]; rfl
  have hx : ∀ j, X m c n (ix2 ⟨b.val % 1024, by omega⟩ j) = xs m c (ix2 (row s b) j) := fun j => by
    rw [X_apply m c _ hn]
    have e : 8192 * (n / 16) + 1024 * (n % 8) + b.val % 1024 = 8192 * s.val + b.val := by omega
    simp only [e]; rfl
  simp only [hmu, hcov, hx]

end Cert.KernelIdeal.Array

end
-- ==== Proof.Pre.lean ====
/- What the precondition says of the arguments: every row of the second lists the columns in the order of a permutation. -/
module

public import proofs.«01_k».proof.Proof.Array
public import proofs.«01_k».proof.Pre_permuted
public import Idealize.ShloMosaic.Lib.Affine
public import Idealize.ShloMosaic.Lib.Decide
public import Idealize.ShloMosaic.Lib.Exec
public import Idealize.ShloMosaic.Lib.ReduceAll
public import Idealize.ShloMosaic.Lib.StableHlo.Predicate
public import Idealize.ShloMosaic.Lib.WordCmp

@[expose] public section

set_option maxRecDepth 16384

noncomputable section

namespace Cert.Pre_permuted.Read

open Idealize.ShloMosaic Cert.Pre_permuted

/-- The shape relations the precondition's operations take. -/
theorem facts : Facts where
  bcast_S_S3x1024 := by decide
  bcast_S3x1024_S3x1024x1_0_1 := by decide
  bcast_S3x1024_S3x1x1024_0_2 := by decide
  bcast_S3x1024x1_S3x1024x1024_0_1_2 := by decide
  bcast_S3x1x1024_S3x1024x1024_0_1_2 := by decide
  bcast_S_S1024x1024 := by decide
  bcast_S1024x1024_S1x1024x1024_1_2 := by decide
  bcast_S1x1024x1024_S3x1024x1024_0_1_2 := by decide
  h_S_ := by decide
  reducesTo_S3x1024_S_d0_1 := by decide
  reducesTo_S3x1024x1024_S_d0_1_2 := by decide

attribute [instance] facts

instance : Subsingleton S_.Idx := ⟨fun a b => funext fun i => i.elim0⟩

variable (x : FVec Ideal S24576x1024 .f32) (p : IVec S3x1024 32)

/-- Every entry of the second argument is the number of a column. -/
theorem range (h : (fn (F := Ideal) x p).1 = fun _ => 1#1) (i : S3x1024.Idx) : (p i).toNat < 1024 := by
  have h' := congrFun h fun i => i.elim0
  simp only [fn, fn_part1] at h'
  have e := Host.reduce_andi_all _ _ _ _ _ h' i
  have e' : IntOp.andi (IntOp.cmpi .sge (p i) 0#32) (IntOp.cmpi .slt (p i) 1024#32) = 1#1 := e
  word_cmp at e'

/-- Two places of a row hold the same column only if they are the same place. -/
theorem distinct (h : (fn (F := Ideal) x p).2 = fun _ => 1#1) (s : Fin 3) (i j : Fin 1024)
    (hij : p (ix2 s i) = p (ix2 s j)) : i = j := by
  have h' := congrFun h fun i => i.elim0
  simp only [fn, fn_part1] at h'
  have e := Host.reduce_andi_all _ _ _ _ _ h' (ix3 s i j)
  pointwise at e
  rw [hij, StableHlo.Predicate.cmpi_eq_iff, StableHlo.Predicate.cmpi_eq_iff.2 rfl] at e
  have e' := StableHlo.Predicate.cmpi_eq_iff.1 e.symm
  have e'' : BitVec.ofNat 32 i.val = BitVec.ofNat 32 j.val := by simpa [IntOp.addi] using e'
  have := congrArg BitVec.toNat e''
  simp only [BitVec.toNat_ofNat] at this
  exact Fin.ext (by omega)

/-- A row of the second argument is a permutation of the columns. -/
theorem perms (h1 : (fn (F := Ideal) x p).1 = fun _ => 1#1) (h2 : (fn (F := Ideal) x p).2 = fun _ => 1#1) (s : Fin 3) :
    ∃ σ : Equiv.Perm (Fin 1024), ∀ k, p (ix2 s k) = BitVec.ofNat 32 (σ k).val := by
  let f : Fin 1024 → Fin 1024 := fun k => ⟨(p (ix2 s k)).toNat, range x p h1 _⟩
  have hf : Function.Injective f := fun i j hij =>
    distinct x p h2 s i j (BitVec.eq_of_toNat_eq (congrArg (fun q : Fin 1024 => q.val) hij :))
  refine ⟨Equiv.ofBijective f (Finite.injective_iff_bijective.1 hf), fun k => BitVec.eq_of_toNat_eq ?_⟩
  have := range x p h1 (ix2 s k)
  show (p (ix2 s k)).toNat = (BitVec.ofNat 32 (p (ix2 s k)).toNat).toNat
  rw [BitVec.toNat_ofNat, Nat.mod_eq_of_lt (by omega)]

end Cert.Pre_permuted.Read

end
-- ==== Proof.Take.lean ====
/- The reference's two gathers along an axis, and its argsort, read at coordinates. -/
module

public import proofs.«01_k».proof.Proof.Pre
public import proofs.«01_k».proof.Proof.Gen.ReferenceIdeal.Run
public import Idealize.ShloMosaic.Lib.Pointwise
public import Idealize.ShloMosaic.Lib.SortFacts

@[expose] public section

set_option maxRecDepth 16384

noncomputable section

namespace Cert.ReferenceIdeal.Take

open Idealize.ShloMosaic Idealize.ShloMosaic.TcCoe Idealize.SL Idealize.SL.Sem Cert.ReferenceIdeal Cert.ReferenceIdeal.Gen

/-- The coordinate a gather hands to an axis of its indices, by the name of the result's axis it comes from. -/
theorem siCoord_val {s si t : Shape} (d : GatherDims s si t) (j : t.Idx) (b : Fin si.rank) (hb : b ∈ d.siKept) (e : Fin t.rank)
    (he : d.batchDims[d.siKept.idxOf b]? = some e) : (d.siCoord j b hb).val = (j e).val := by
  obtain ⟨_, h⟩ := List.getElem?_eq_some_iff.1 he
  unfold GatherDims.siCoord
  exact congrArg (fun e => (j e).val) h

/-- The offset coordinate, by the name of the result's axis it comes from. -/
theorem offCoord_val {s si t : Shape} (d : GatherDims s si t) (j : t.Idx) (a : Fin s.rank) (ha : a ∈ d.sKept) (e : Fin t.rank)
    (he : d.offsetDims[d.sKept.idxOf a]? = some e) : d.offCoord j a = (j e).val := by
  obtain ⟨_, h⟩ := List.getElem?_eq_some_iff.1 he
  unfold GatherDims.offCoord
  rw [dif_pos ha]
  exact congrArg (fun e => (j e).val) h

/-- The batching coordinate, by the name of the result's axis it comes from. -/
theorem batchCoord_val {s si t : Shape} (d : GatherDims s si t) (j : t.Idx) (a : Fin s.rank) (b : Fin si.rank) (e : Fin t.rank)
    (ha : a ∈ d.operandBatchingDims) (hb : d.startIndicesBatchingDims[d.operandBatchingDims.idxOf a]? = some b)
    (he : d.batchDims[d.siKept.idxOf b]? = some e) : d.batchCoord j a = (j e).val := by
  obtain ⟨_, h⟩ := List.getElem?_eq_some_iff.1 hb
  unfold GatherDims.batchCoord
  rw [dif_pos ha]
  refine siCoord_val d j _ _ e ?_
  rw [h]
  exact he

/-- The one axis a gather starts at: the index it reads, clamped. -/
theorem start_val {s si t : Shape} (d : GatherDims s si t) (j : t.Idx) (q : IVec si 32) (a : Fin s.rank) (ha : a ∈ d.startIndexMap)
    (i : si.Idx) (n : ℕ) (hn : s.size a - d.sliceSizes a = n) (hi : ∀ c, d.siIdx j c = i) :
    d.start j q a = min (q i).toInt.toNat n := by
  unfold GatherDims.start
  rw [dif_pos ha, hi, hn]

theorem start_zero {s si t : Shape} (d : GatherDims s si t) (j : t.Idx) (q : IVec si 32) (a : Fin s.rank) (ha : a ∉ d.startIndexMap) :
    d.start j q a = 0 := by
  unfold GatherDims.start
  rw [dif_neg ha]

theorem word_clamp (j : Fin 1024) : min (BitVec.ofNat 32 j.val).toInt.toNat 1023 = j.val := by
  rw [StableHlo.Predicate.toInt_ofNat_small _ (by omega)]
  omega

/-- A gather along the last of three axes. -/
theorem last {α : Type} (x : S3x8192x1024.Idx → α) (q : IVec S3x1024x1 32) (s : Fin 3) (b : Fin 8192) (k j : Fin 1024)
    (hq : q (ix3 s k 0) = BitVec.ofNat 32 j.val) :
    Host.gather gather_S3x8192x1024_S3x1024x1_S3x8192x1024_1_2_0_0_2_2_181921 x q (ix3 s b k) = x (ix3 s b j) := by
  set d := gather_S3x8192x1024_S3x1024x1_S3x8192x1024_1_2_0_0_2_2_181921 with hd
  have hi : ∀ c, d.siIdx (ix3 s b k) c = (ix3 s k 0 : S3x1024x1.Idx) := fun c => funext fun e => Fin.ext <| by
    match e with
    | ⟨0, _⟩ =>
      show (d.siIdx (ix3 s b k) c (0 : Fin 3)).val = s.val
      unfold GatherDims.siIdx
      rw [dif_neg (by decide)]
      exact siCoord_val d _ _ _ 0 (by decide)
    | ⟨1, _⟩ =>
      show (d.siIdx (ix3 s b k) c (1 : Fin 3)).val = k.val
      unfold GatherDims.siIdx
      rw [dif_neg (by decide)]
      exact siCoord_val d _ _ _ 2 (by decide)
    | ⟨2, _⟩ =>
      have := (d.siIdx (ix3 s b k) c ⟨2, by decide⟩).isLt
      exact Nat.lt_one_iff.1 this
  unfold Host.gather
  congr 1
  funext a
  apply Fin.ext
  show d.start _ q a + d.batchCoord _ a + d.offCoord _ a = _
  match a with
  | ⟨0, _⟩ =>
    show d.start (ix3 s b k) q (0 : Fin 3) + d.batchCoord (ix3 s b k) (0 : Fin 3) + d.offCoord (ix3 s b k) (0 : Fin 3) = s.val
    rw [start_zero d _ q _ (by decide), batchCoord_val d _ _ 0 0 (by decide) (by decide) (by decide),
      d.offCoord_eq_zero _ _ (by decide)]
    exact (Nat.zero_add _)
  | ⟨1, _⟩ =>
    show d.start (ix3 s b k) q (1 : Fin 3) + d.batchCoord (ix3 s b k) (1 : Fin 3) + d.offCoord (ix3 s b k) (1 : Fin 3) = b.val
    rw [start_zero d _ q _ (by decide), d.batchCoord_eq_zero _ _ (by decide), offCoord_val d _ _ (by decide) 1 (by decide)]
    exact (Nat.zero_add _)
  | ⟨2, _⟩ =>
    show d.start (ix3 s b k) q (2 : Fin 3) + d.batchCoord (ix3 s b k) (2 : Fin 3) + d.offCoord (ix3 s b k) (2 : Fin 3) = j.val
    rw [start_val d _ q _ (by decide) _ 1023 (by decide) hi, hq, word_clamp, d.batchCoord_eq_zero _ _ (by decide),
      d.offCoord_eq_zero _ _ (by decide)]
    rfl

/-- A gather along the middle of three axes. -/
theorem middle {α : Type} (x : S3x1024x8192.Idx → α) (q : IVec S3x1024x1 32) (s : Fin 3) (b : Fin 8192) (k j : Fin 1024)
    (hq : q (ix3 s k 0) = BitVec.ofNat 32 j.val) :
    Host.gather gather_S3x1024x8192_S3x1024x1_S3x1024x8192_2_1_0_0_1_2_118192 x q (ix3 s k b) = x (ix3 s j b) := by
  set d := gather_S3x1024x8192_S3x1024x1_S3x1024x8192_2_1_0_0_1_2_118192 with hd
  have hi : ∀ c, d.siIdx (ix3 s k b) c = (ix3 s k 0 : S3x1024x1.Idx) := fun c => funext fun e => Fin.ext <| by
    match e with
    | ⟨0, _⟩ =>
      show (d.siIdx (ix3 s k b) c (0 : Fin 3)).val = s.val
      unfold GatherDims.siIdx
      rw [dif_neg (by decide)]
      exact siCoord_val d _ _ _ 0 (by decide)
    | ⟨1, _⟩ =>
      show (d.siIdx (ix3 s k b) c (1 : Fin 3)).val = k.val
      unfold GatherDims.siIdx
      rw [dif_neg (by decide)]
      exact siCoord_val d _ _ _ 1 (by decide)
    | ⟨2, _⟩ =>
      have := (d.siIdx (ix3 s k b) c ⟨2, by decide⟩).isLt
      exact Nat.lt_one_iff.1 this
  unfold Host.gather
  congr 1
  funext a
  apply Fin.ext
  show d.start _ q a + d.batchCoord _ a + d.offCoord _ a = _
  match a with
  | ⟨0, _⟩ =>
    show d.start (ix3 s k b) q (0 : Fin 3) + d.batchCoord (ix3 s k b) (0 : Fin 3) + d.offCoord (ix3 s k b) (0 : Fin 3) = s.val
    rw [start_zero d _ q _ (by decide), batchCoord_val d _ _ 0 0 (by decide) (by decide) (by decide),
      d.offCoord_eq_zero _ _ (by decide)]
    exact (Nat.zero_add _)
  | ⟨1, _⟩ =>
    show d.start (ix3 s k b) q (1 : Fin 3) + d.batchCoord (ix3 s k b) (1 : Fin 3) + d.offCoord (ix3 s k b) (1 : Fin 3) = j.val
    rw [start_val d _ q _ (by decide) _ 1023 (by decide) hi, hq, word_clamp, d.batchCoord_eq_zero _ _ (by decide),
      d.offCoord_eq_zero _ _ (by decide)]
    rfl
  | ⟨2, _⟩ =>
    show d.start (ix3 s k b) q (2 : Fin 3) + d.batchCoord (ix3 s k b) (2 : Fin 3) + d.offCoord (ix3 s k b) (2 : Fin 3) = b.val
    rw [start_zero d _ q _ (by decide), d.batchCoord_eq_zero _ _ (by decide), offCoord_val d _ _ (by decide) 2 (by decide)]
    exact (Nat.zero_add _)

/-- Sorted by where a permutation's inverse puts them, the places come in the permutation's order. -/
theorem sortedFrom_perm {n : ℕ} (τ : Equiv.Perm (Fin n)) (k : Fin n) :
    sortedFrom (fun i i' => decide (τ.symm i < τ.symm i')) k = τ k := by
  unfold sortedFrom
  refine (List.get_of_eq (sortPositions_of_perm τ) _).trans ?_
  rw [List.get_eq_getElem, List.getElem_ofFn]
  rfl

theorem sort2_snd (x y : S3x1024.Idx → BitVec 32) (cmp : BitVec 32 × BitVec 32 → BitVec 32 × BitVec 32 → BitVec 1) (j : S3x1024.Idx) :
    (Host.sort2 S3x1024 1 cmp x y).2 j = y (j.along 1 (sortedFrom (fun k k' => cmp (x (j.along 1 k), y (j.along 1 k))
      (x (j.along 1 k'), y (j.along 1 k')) == 1#1) (j 1))) := by
  unfold Host.sort2
  rw [dif_pos (by decide)]
  rfl

/-- A row of distinct words sorted with the places: the place a word comes from is where the permutation's inverse puts it. -/
theorem argsort (P : IVec S3x1024 32) (σ : Fin 3 → Equiv.Perm (Fin 1024))
    (hP : ∀ s k, P (ix2 s k) = BitVec.ofNat 32 (σ s k).val) (s : Fin 3) (k : Fin 1024) :
    (Host.sort2 S3x1024 1 comparator_i32_i32_d1 P (iotaInDim S3x1024 32 1)).2 (ix2 s k) = BitVec.ofNat 32 ((σ s).symm k).val := by
  have hb : (fun i i' : Fin 1024 => comparator_i32_i32_d1 (P (ix2 s i), iotaInDim S3x1024 32 1 (ix2 s i))
      (P (ix2 s i'), iotaInDim S3x1024 32 1 (ix2 s i')) == 1#1) = fun i i' => decide ((σ s).symm.symm i < (σ s).symm.symm i') := by
    funext i i'
    rw [Bool.eq_iff_iff]
    simp only [beq_iff_eq, decide_eq_true_eq, Equiv.symm_symm]
    show IntOp.cmpi .slt (P (ix2 s i)) (P (ix2 s i')) = 1#1 ↔ _
    rw [hP, hP]
    word_cmp
  have hs : sortedFrom (fun i i' : Fin 1024 => comparator_i32_i32_d1 (P (ix2 s i), iotaInDim S3x1024 32 1 (ix2 s i))
      (P (ix2 s i'), iotaInDim S3x1024 32 1 (ix2 s i')) == 1#1) k = (σ s).symm k := by
    rw [hb]
    exact sortedFrom_perm (σ s).symm k
  have ha : ∀ i : Fin 1024, (ix2 s k : S3x1024.Idx).along 1 i = ix2 s i := fun i => funext fun e => by
    match e with
    | ⟨0, _⟩ => rfl
    | ⟨1, _⟩ => rfl
  have key : ∀ f : Fin 1024 → Fin 1024 → Bool, f = (fun i i' : Fin 1024 => comparator_i32_i32_d1
      (P (ix2 s i), iotaInDim S3x1024 32 1 (ix2 s i)) (P (ix2 s i'), iotaInDim S3x1024 32 1 (ix2 s i')) == 1#1) →
      iotaInDim S3x1024 32 1 ((ix2 s k : S3x1024.Idx).along 1 (sortedFrom (n := 1024) f k)) = BitVec.ofNat 32 ((σ s).symm k).val := by
    intro f hf
    rw [hf, hs]
    exact congrArg (iotaInDim S3x1024 32 1) (ha _)
  rw [sort2_snd]
  refine key _ ?_
  funext i i'
  exact congrArg₂ (fun a b => IntOp.cmpi .slt a b == 1#1) (congrArg P (ha i)) (congrArg P (ha i'))

end Cert.ReferenceIdeal.Take

end
-- ==== Proof.Reference.lean ====
/- The reference's arrays read at coordinates: the permuted features, their means, the covariance blocks. -/
module

public import proofs.«01_k».proof.Proof.Take

@[expose] public section

set_option maxRecDepth 16384

noncomputable section

namespace Cert.ReferenceIdeal.Entry

open Idealize.ShloMosaic Idealize.ShloMosaic.TcCoe Idealize.SL Idealize.SL.Sem Cert.ReferenceIdeal Cert.ReferenceIdeal.Gen
open Cert.ReferenceIdeal.Value
open Cert.KernelIdeal.Array (row)
open Cert.KernelIdeal.Entries (col grp pos)

variable (V0 : Valuation τ sig (Elt Ideal))

/-- The two arguments as arrays. -/
def X : FVec Ideal S24576x1024 .f32 := V0 (Proc.devRef .tc main_arg0)
def P : IVec S3x1024 32 := V0 (Proc.devRef .tc main_arg1)

/-- A column's number is not negative: the wrap of negative indices leaves it. -/
theorem wrap (j : Fin 1024) : Scalar.select (IntOp.cmpi .slt (BitVec.ofNat 32 j.val) 0#32)
    (IntOp.addi (BitVec.ofNat 32 j.val) 1024#32) (BitVec.ofNat 32 j.val) = BitVec.ofNat 32 j.val := by
  have h : IntOp.cmpi .slt (BitVec.ofNat 32 j.val) 0#32 = 0#1 := by word_cmp
  rw [h]
  rfl

/-- A column's number is in range. -/
theorem inside (j : Fin 1024) : IntOp.andi (IntOp.cmpi .sge (BitVec.ofNat 32 j.val) 0#32)
    (IntOp.cmpi .sle (BitVec.ofNat 32 j.val) 1023#32) = 1#1 := by
  word_cmp

/-- An array of column numbers passes the range check everywhere. -/
theorem checked (q : IVec S3x1024x1 32) (f : Fin 3 → Fin 1024 → Fin 1024) (hq : ∀ s k, q (ix3 s k 0) = BitVec.ofNat 32 (f s k).val)
    (i : S3x1024.Idx) :
    Host.reduce IntOp.andi (andi (cmpi .sge q (broadcastInDim S3x1024x1 ![] Facts₀.bcast_S_S3x1024x1 (constantI S_ 32 0#32)))
      (cmpi .sle q (broadcastInDim S3x1024x1 ![0, 1, 2] Facts₀.bcast_S1x1x1_S3x1024x1_0_1_2
        (broadcastInDim S1x1x1 ![2] Facts₀.bcast_S1_S1x1x1_2 (constantI S1 32 1023#32))))) (constantI S_ 1 1#1)
      Facts₀.reducesTo_S3x1024x1_S3x1024_d2 Facts₀.h_S_ i = 1#1 := by
  refine Host.reduce_andi_one _ _ _ _ _ rfl fun j => ?_
  have hj : j = ix3 (j 0) (j 1) (0 : Fin 1) := (eq_ix3 j).trans ((ix3_inj ..).2 ⟨rfl, rfl, Subsingleton.elim (α := Fin 1) _ _⟩)
  have e : ∀ (s : Fin 3) (k : Fin 1024), andi (cmpi .sge q (broadcastInDim S3x1024x1 ![] Facts₀.bcast_S_S3x1024x1 (constantI S_ 32 0#32)))
      (cmpi .sle q (broadcastInDim S3x1024x1 ![0, 1, 2] Facts₀.bcast_S1x1x1_S3x1024x1_0_1_2
        (broadcastInDim S1x1x1 ![2] Facts₀.bcast_S1_S1x1x1_2 (constantI S1 32 1023#32)))) (ix3 s k 0) = 1#1 := fun s k => by
    pointwise
    rw [hq]
    exact inside _
  rw [hj]
  exact e _ _

section
variable (σ : Fin 3 → Equiv.Perm (Fin 1024)) (hP : ∀ s k, P V0 (ix2 s k) = BitVec.ofNat 32 (σ s k).val)
include hP

theorem places (s : Fin 3) (k : Fin 1024) : res_main_call0_v5 V0 (ix3 s k 0) = BitVec.ofNat 32 (σ s k).val := by
  pointwise [res_main_call0_v5, res_main_v1]
  have h : V0 (Proc.devRef .tc main_arg1) (ix2 s k) = BitVec.ofNat 32 (σ s k).val := hP s k
  rw [h]
  exact wrap _

theorem places' (s : Fin 3) (k : Fin 1024) : res_main_call2_v4 V0 (ix3 s k 0) = BitVec.ofNat 32 ((σ s).symm k).val := by
  pointwise [res_main_call2_v4, res_main_v117, res_main_call1_v0]
  have h := Take.argsort (P V0) σ hP s k
  unfold P at h
  rw [h]
  exact wrap _

/-- The permuted features, grouped. -/
theorem v3_apply (s : Fin 3) (b : Fin 8192) (g : Fin 64) (e : Fin 16) :
    res_main_v3 V0 (ix4 s b g e) = X V0 (ix2 (row s b) (σ s (col g e))) := by
  unfold res_main_v3
  generalize hM : Host.reduce IntOp.andi _ _ _ _ = M
  generalize hT : Host.gather _ _ _ = T
  pointwise
  have hc : (⟨g.val * 16 + e.val, by omega⟩ : Fin 1024) = col g e := Fin.ext (by simp only [col]; omega)
  rw [hc, ← hM, checked _ _ (places V0 σ hP), ← hT, Take.last _ _ s b (col g e) _ (places V0 σ hP s (col g e))]
  pointwise
  have hr : (⟨s.val * 8192 + b.val, by omega⟩ : Fin 24576) = row s b := Fin.ext (by simp only [row]; omega)
  rw [hr]
  rfl

end

/-- The mean of a column over a view. -/
def mean (s : Fin 3) (i : Fin 1024) : EReal :=
  Ideal.div (∑ b : Fin 8192, X V0 (ix2 (row s b) i)) (Ideal.ofBits .f32 0x46000000#32)

/-- The covariance of two columns over a view. -/
def cov (s : Fin 3) (i j : Fin 1024) : EReal :=
  Ideal.div (∑ b : Fin 8192, (X V0 (ix2 (row s b) i) - mean V0 s i) * (X V0 (ix2 (row s b) j) - mean V0 s j))
    (Ideal.ofBits .f32 0x46000000#32)

/-- An array of features less its means over the rows of a view, by groups. -/
def centred (T : FVec Ideal S3x8192x64x16 .f32) : FVec Ideal S3x64x8192x16 .f32 :=
  transpose S3x64x8192x16 [0, 2, 1, 3] (subf T (broadcastInDim S3x8192x64x16 ![0, 1, 2, 3] Facts₀.bcast_S3x1x64x16_S3x8192x64x16_0_1_2_3 (Host.divf (broadcastInDim S3x1x64x16 ![0, 2, 3] Facts₀.bcast_S3x64x16_S3x1x64x16_0_2_3 (Host.reduceAdd T (constant S_ .f32 0x00000000#32) Facts₀.reducesTo_S3x8192x64x16_S3x64x16_d1 Facts₀.h_S_)) (broadcastInDim S3x1x64x16 ![] Facts₀.bcast_S_S3x1x64x16 (constant S_ .f32 0x46000000#32))))) Facts₀.transposes_S3x8192x64x16_S3x64x8192x16_0_2_1_3

theorem centred_apply (T : FVec Ideal S3x8192x64x16 .f32) (s : Fin 3) (g : Fin 64) (b : Fin 8192) (e : Fin 16) :
    centred T (ix4 s g b e)
      = T (ix4 s b g e) - Ideal.div (∑ b : Fin 8192, T (ix4 s b g e)) (Ideal.ofBits .f32 0x46000000#32) := by
  pointwise [centred]

/-- The products of the centred features summed over the rows, over their number. -/
def products (T : FVec Ideal S3x64x8192x16 .f32) : FVec Ideal S3x64x16x16 .f32 :=
  Host.divf (Host.dotGeneral dot_S3x64x8192x16_S3x64x8192x16_S3x64x16x16_2_2_3_3_01_01 none T T) (broadcastInDim S3x64x16x16 ![] Facts₀.bcast_S_S3x64x16x16 (constant S_ .f32 0x46000000#32))

theorem products_apply (T : FVec Ideal S3x64x8192x16 .f32) (s : Fin 3) (g : Fin 64) (d e : Fin 16) :
    products T (ix4 s g d e)
      = Ideal.div (∑ b : Fin 8192, T (ix4 s g b d) * T (ix4 s g b e)) (Ideal.ofBits .f32 0x46000000#32) := by
  pointwise [products]

section
variable (σ : Fin 3 → Equiv.Perm (Fin 1024)) (hP : ∀ s k, P V0 (ix2 s k) = BitVec.ofNat 32 (σ s k).val)
include hP

/-- The centred features, by groups. -/
theorem v10_apply (s : Fin 3) (g : Fin 64) (b : Fin 8192) (e : Fin 16) :
    res_main_v10 V0 (ix4 s g b e) = X V0 (ix2 (row s b) (σ s (col g e))) - mean V0 s (σ s (col g e)) := by
  refine (centred_apply (res_main_v3 V0) s g b e).trans ?_
  simp only [v3_apply V0 σ hP]
  unfold mean
  rfl

/-- The covariance blocks. -/
theorem v13_apply (s : Fin 3) (g : Fin 64) (d e : Fin 16) :
    res_main_v13 V0 (ix4 s g d e) = cov V0 s (σ s (col g d)) (σ s (col g e)) := by
  refine (products_apply (res_main_v10 V0) s g d e).trans ?_
  simp only [v10_apply V0 σ hP]
  unfold cov
  rfl

end

open Cert.KernelIdeal.Entries (Blk mulB facB stepB normB rootB)

/-- One block of an array of blocks. -/
def blk (A : FVec Ideal S3x64x16x16 .f32) (s : Fin 3) (g : Fin 64) : Blk := fun i k => A (ix4 s g i k)

theorem v24_apply (d e : Fin 16) : res_main_v24 V0 (ix2 d e) = if d = e then (1 : EReal) else 0 := by
  pointwise [res_main_v24]
  by_cases h : d = e
  · subst h
    rw [if_pos rfl, show IntOp.addi (BitVec.ofNat 32 d.val) 0#32 = BitVec.ofNat 32 d.val from BitVec.add_zero _,
      IntOp.cmpi_eq_self]
    show (((1#1 : BitVec 1).toNat : ℝ) : EReal) = 1
    simp
  · rw [if_neg h, show IntOp.addi (BitVec.ofNat 32 d.val) 0#32 = BitVec.ofNat 32 d.val from BitVec.add_zero _,
      show IntOp.cmpi .eq (BitVec.ofNat 32 d.val) (BitVec.ofNat 32 e.val) = 0#1 from by
        show BitVec.ofBool (_ == _) = _
        rw [beq_eq_false_iff_ne.2 (fun q => h (Fin.ext ((Cert.KernelIdeal.Entries.ofNat_inj (by omega) (by omega)).1 q)))]
        rfl]
    show (((0#1 : BitVec 1).toNat : ℝ) : EReal) = 0
    simp

theorem blk_dot (A B : FVec Ideal S3x64x16x16 .f32) (s : Fin 3) (g : Fin 64) :
    blk (Host.dotGeneral dot_S3x64x16x16_S3x64x16x16_S3x64x16x16_3_2_2_3_01_01 none A B) s g = mulB (blk A s g) (blk B s g) := by
  funext i k
  unfold blk mulB
  pointwise

/-- The factor of one Newton–Schulz step. -/
def fac (z y : FVec Ideal S3x64x16x16 .f32) : FVec Ideal S3x64x16x16 .f32 :=
  subf (broadcastInDim S3x64x16x16 ![0, 1, 2, 3] Facts₀.bcast_S1x1x16x16_S3x64x16x16_0_1_2_3 (broadcastInDim S1x1x16x16 ![2, 3] Facts₀.bcast_S16x16_S1x1x16x16_2_3 (mulf (broadcastInDim S16x16 ![] Facts₀.bcast_S_S16x16 (constant S_ .f32 0x3FC00000#32)) (res_main_v24 V0)))) (mulf (broadcastInDim S3x64x16x16 ![] Facts₀.bcast_S_S3x64x16x16 (constant S_ .f32 0x3F000000#32)) (Host.dotGeneral dot_S3x64x16x16_S3x64x16x16_S3x64x16x16_3_2_2_3_01_01 none z y))

theorem blk_fac (z y : FVec Ideal S3x64x16x16 .f32) (s : Fin 3) (g : Fin 64) :
    blk (fac V0 z y) s g = facB (blk z s g) (blk y s g) := by
  funext i k
  unfold blk facB mulB
  pointwise [fac]
  rw [v24_apply]

/-- One step on every block. -/
theorem blk_step (y z : FVec Ideal S3x64x16x16 .f32) (s : Fin 3) (g : Fin 64) :
    (blk (Host.dotGeneral dot_S3x64x16x16_S3x64x16x16_S3x64x16x16_3_2_2_3_01_01 none (fac V0 z y) y) s g,
      blk (Host.dotGeneral dot_S3x64x16x16_S3x64x16x16_S3x64x16x16_3_2_2_3_01_01 none (fac V0 z y) z) s g)
      = stepB (blk y s g, blk z s g) := by
  rw [blk_dot, blk_dot, blk_fac]
  rfl

/-- The squared norms of the blocks, with the margin. -/
def sizes (C : FVec Ideal S3x64x16x16 .f32) : FVec Ideal S3x64x1x1 .f32 :=
  mulf (broadcastInDim S3x64x1x1 ![] Facts₀.bcast_S_S3x64x1x1 (constant S_ .f32 0x3F828F5C#32)) (broadcastInDim S3x64x1x1 ![0, 1] Facts₀.bcast_S3x64_S3x64x1x1_0_1 (Host.reduceAdd (mulf C C) (constant S_ .f32 0x00000000#32) Facts₀.reducesTo_S3x64x16x16_S3x64_d2_3 Facts₀.h_S_))

theorem sizes_apply (C : FVec Ideal S3x64x16x16 .f32) (s : Fin 3) (g : Fin 64) :
    sizes C (ix4 s g 0 0) = normB (blk C s g) := by
  unfold normB blk
  pointwise [sizes]

/-- The covariance blocks over their sizes: where the steps start. -/
theorem blk_first (C : FVec Ideal S3x64x16x16 .f32) (n : FVec Ideal S3x64x1x1 .f32) (s : Fin 3) (g : Fin 64) :
    blk (mulf C (broadcastInDim S3x64x16x16 ![0, 1, 2, 3] Facts₀.bcast_S3x64x1x1_S3x64x16x16_0_1_2_3 (Host.divf (broadcastInDim S3x64x1x1 ![] Facts₀.bcast_S_S3x64x1x1 (constant S_ .f32 0x3F800000#32)) n))) s g
      = fun d e => blk C s g d e * Ideal.div 1 (n (ix4 s g 0 0)) := by
  funext d e
  unfold blk
  pointwise

theorem blk_second (s : Fin 3) (g : Fin 64) : blk (res_main_v29 V0) s g = fun d e => if d = e then (1 : EReal) else 0 := by
  funext d e
  unfold blk
  pointwise [res_main_v29]
  exact v24_apply V0 d e

/-- The inverse square roots of the blocks from the last iterate. -/
theorem blk_scaled (A : FVec Ideal S3x64x16x16 .f32) (n : FVec Ideal S3x64x1x1 .f32) (s : Fin 3) (g : Fin 64) :
    blk (mulf A (broadcastInDim S3x64x16x16 ![0, 1, 2, 3] Facts₀.bcast_S3x64x1x1_S3x64x16x16_0_1_2_3 (Host.rsqrt n))) s g
      = fun d e => blk A s g d e * Ideal.rsqrt (n (ix4 s g 0 0)) := by
  funext d e
  unfold blk
  pointwise

/-- The array of inverse square roots. -/
def roots : FVec Ideal S3x64x16x16 .f32 :=
  mulf (Host.dotGeneral (φ₁ := .f32) (φ₂ := .f32) dot_S3x64x16x16_S3x64x16x16_S3x64x16x16_3_2_2_3_01_01 none (res_main_v107 V0) (res_main_v99 V0)) (broadcastInDim S3x64x16x16 ![0, 1, 2, 3] Facts₀.bcast_S3x64x1x1_S3x64x16x16_0_1_2_3 (Host.rsqrt (res_main_v18 V0)))

theorem blk_roots (s : Fin 3) (g : Fin 64) : blk (roots V0) s g = rootB (blk (res_main_v13 V0) s g) := by
  have e1 := blk_step V0 (res_main_v28 V0) (res_main_v29 V0) s g
  have e2 := blk_step V0 (res_main_v38 V0) (res_main_v39 V0) s g
  have e3 := blk_step V0 (res_main_v48 V0) (res_main_v49 V0) s g
  have e4 := blk_step V0 (res_main_v58 V0) (res_main_v59 V0) s g
  have e5 := blk_step V0 (res_main_v68 V0) (res_main_v69 V0) s g
  have e6 := blk_step V0 (res_main_v78 V0) (res_main_v79 V0) s g
  have e7 := blk_step V0 (res_main_v88 V0) (res_main_v89 V0) s g
  have e8 := blk_step V0 (res_main_v98 V0) (res_main_v99 V0) s g
  replace e1 : (blk (res_main_v38 V0) s g, blk (res_main_v39 V0) s g) = _ := e1
  replace e2 : (blk (res_main_v48 V0) s g, blk (res_main_v49 V0) s g) = _ := e2
  replace e3 : (blk (res_main_v58 V0) s g, blk (res_main_v59 V0) s g) = _ := e3
  replace e4 : (blk (res_main_v68 V0) s g, blk (res_main_v69 V0) s g) = _ := e4
  replace e5 : (blk (res_main_v78 V0) s g, blk (res_main_v79 V0) s g) = _ := e5
  replace e6 : (blk (res_main_v88 V0) s g, blk (res_main_v89 V0) s g) = _ := e6
  replace e7 : (blk (res_main_v98 V0) s g, blk (res_main_v99 V0) s g) = _ := e7
  rw [e7, e6, e5, e4, e3, e2, e1] at e8
  have f1 : blk (res_main_v28 V0) s g = fun d e => blk (res_main_v13 V0) s g d e * Ideal.div 1 (normB (blk (res_main_v13 V0) s g)) :=
    (blk_first (res_main_v13 V0) (res_main_v18 V0) s g).trans (by
      rw [show res_main_v18 V0 (ix4 s g 0 0) = _ from sizes_apply (res_main_v13 V0) s g])
  rw [f1, blk_second] at e8
  funext i k
  refine (congrFun (congrFun (blk_scaled _ (res_main_v18 V0) s g) i) k).trans ?_
  rw [show res_main_v18 V0 (ix4 s g 0 0) = _ from sizes_apply (res_main_v13 V0) s g]
  have e9 := congrArg Prod.snd e8
  refine Ideal.mul_congr (congrFun (congrFun e9 i) k) rfl

section
variable (σ : Fin 3 → Equiv.Perm (Fin 1024)) (hP : ∀ s k, P V0 (ix2 s k) = BitVec.ofNat 32 (σ s k).val)
include hP

theorem roots_apply (s : Fin 3) (g : Fin 64) (i k : Fin 16) :
    roots V0 (ix4 s g i k) = rootB (fun d e => cov V0 s (σ s (col g d)) (σ s (col g e))) i k := by
  refine (congrFun (congrFun (blk_roots V0 s g) i) k).trans ?_
  have h : blk (res_main_v13 V0) s g = fun d e => cov V0 s (σ s (col g d)) (σ s (col g e)) := by
    funext d e
    exact v13_apply V0 σ hP s g d e
  rw [h]

end

/-- The whitened groups laid out by columns, before the columns go back. -/
def laid (T : FVec Ideal S3x64x8192x16 .f32) (W : FVec Ideal S3x64x16x16 .f32) : FVec Ideal S3x1024x8192 .f32 :=
  shapeCast _ (transpose S3x64x16x8192 [0, 1, 3, 2] (Host.dotGeneral dot_S3x64x8192x16_S3x64x16x16_S3x64x8192x16_3_2_2_3_01_01 none T W) Facts₀.transposes_S3x64x8192x16_S3x64x16x8192_0_1_3_2) Facts₀.shapeCasts_S3x64x16x8192_S3x1024x8192

theorem laid_apply (T : FVec Ideal S3x64x8192x16 .f32) (W : FVec Ideal S3x64x16x16 .f32) (s : Fin 3) (k : Fin 1024) (b : Fin 8192) :
    laid T W (ix3 s k b) = ∑ t : Fin 16, T (ix4 s (grp k) b t) * W (ix4 s (grp k) t (pos k)) := by
  pointwise [laid]
  rfl

/-- The reference's result. -/
def result : FVec Ideal S24576x1024 .f32 :=
  shapeCast _ (transpose S3x8192x1024 [0, 2, 1] (select (broadcastInDim S3x1024x8192 ![0, 1] Facts₀.bcast_S3x1024_S3x1024x8192_0_1 (Host.reduce IntOp.andi (andi (cmpi .sge (res_main_call2_v4 V0) (broadcastInDim S3x1024x1 ![] Facts₀.bcast_S_S3x1024x1 (constantI S_ 32 0#32))) (cmpi .sle (res_main_call2_v4 V0) (broadcastInDim S3x1024x1 ![0, 1, 2] Facts₀.bcast_S1x1x1_S3x1024x1_0_1_2 (broadcastInDim S1x1x1 ![2] Facts₀.bcast_S1_S1x1x1_2 (constantI S1 32 1023#32))))) (constantI S_ 1 1#1) Facts₀.reducesTo_S3x1024x1_S3x1024_d2 Facts₀.h_S_)) (Host.gather gather_S3x1024x8192_S3x1024x1_S3x1024x8192_2_1_0_0_1_2_118192 (laid (res_main_v10 V0) (roots V0)) (res_main_call2_v4 V0)) (broadcastInDim S3x1024x8192 ![] Facts₀.bcast_S_S3x1024x8192 (constant S_ .f32 0x7FC00000#32))) Facts₀.transposes_S3x1024x8192_S3x8192x1024_0_2_1) Facts₀.shapeCasts_S3x8192x1024_S24576x1024

/-- The result at a row of a view and the place a column goes back to. -/
theorem result_apply (σ : Fin 3 → Equiv.Perm (Fin 1024)) (hP : ∀ s k, P V0 (ix2 s k) = BitVec.ofNat 32 (σ s k).val)
    (s : Fin 3) (b : Fin 8192) (k : Fin 1024) :
    result V0 (ix2 (row s b) (σ s k)) = ∑ t : Fin 16, (X V0 (ix2 (row s b) (σ s (col (grp k) t))) - mean V0 s (σ s (col (grp k) t)))
      * rootB (fun d e => cov V0 s (σ s (col (grp k) d)) (σ s (col (grp k) e))) t (pos k) := by
  unfold result
  generalize hM : Host.reduce IntOp.andi _ _ _ _ = M
  generalize hT : Host.gather _ _ _ = T
  pointwise
  have h1 : (⟨(row s b).val / 8192, by omega⟩ : Fin 3) = s := Fin.ext (by simp only [row]; omega)
  have h2 : (⟨(row s b).val % 8192, by omega⟩ : Fin 8192) = b := Fin.ext (by simp only [row]; omega)
  rw [h1, h2, ← hM, checked _ _ (places' V0 σ hP), ← hT, Take.middle _ _ s b (σ s k) _ (places' V0 σ hP s (σ s k)),
    Equiv.symm_apply_apply]
  refine (laid_apply _ _ s k b).trans (Finset.sum_congr rfl fun t _ => ?_)
  exact Ideal.mul_congr (v10_apply V0 σ hP s (grp k) b t) (roots_apply V0 σ hP s (grp k) t (pos k))

end Cert.ReferenceIdeal.Entry

end
-- ==== Proof.Equal.lean ====
/- On a group of columns whose entries are all finite the kernel's covariance, from the Gram matrix and the means, is the
   reference's, from the centred features. On a group with an infinite entry both covariances have an infinite entry on
   the diagonal, so both norms are infinite and both whitening matrices zero. Either way the two results are one array. -/
module

public import proofs.«01_k».proof.Proof.Reference

@[expose] public section

set_option maxRecDepth 16384

noncomputable section

namespace Cert.Equal

open Idealize.ShloMosaic

/-- The number of rows of a view. -/
theorem bits_count : Ideal.ofBits .f32 0x46000000#32 = ((8192 : ℝ) : EReal) := by
  simp [Ideal.ofBits, Ideal.ieee, -EReal.coe_mul]; norm_num

/-- Its inverse. -/
theorem bits_share : Ideal.ofBits .f32 0x39000000#32 = ((1 / 8192 : ℝ) : EReal) := by
  simp [Ideal.ofBits, Ideal.ieee, -EReal.coe_mul]; norm_num

/-- A sum of reals as a sum of extended reals. -/
theorem coe_sum {ι : Type} (s : Finset ι) (f : ι → ℝ) : ((∑ b ∈ s, f b : ℝ) : EReal) = ∑ b ∈ s, (f b : EReal) := by
  classical
  induction s using Finset.induction_on with
  | empty => simp
  | insert a s ha ih => rw [Finset.sum_insert ha, Finset.sum_insert ha, EReal.coe_add, ih]

/-- Division by the number of rows is multiplication by its share. -/
theorem div_count (x : EReal) : Ideal.div x (Ideal.ofBits .f32 0x46000000#32) = x * Ideal.ofBits .f32 0x39000000#32 := by
  rw [bits_count, bits_share, Ideal.div_coe (by norm_num)]

/-- Over the reals: the mean of the products less the product of the means is the mean of the products of the deviations. -/
theorem deviations (f h : Fin 8192 → ℝ) :
    (∑ b, f b * h b) * (1 / 8192) - (∑ b, f b) * (1 / 8192) * ((∑ b, h b) * (1 / 8192))
      = (∑ b, (f b - (∑ b, f b) * (1 / 8192)) * (h b - (∑ b, h b) * (1 / 8192))) * (1 / 8192) := by
  generalize hF : ∑ b, f b = F
  generalize hH : ∑ b, h b = H
  have e : ∑ b, (f b - F * (1 / 8192)) * (h b - H * (1 / 8192))
      = ∑ b, f b * h b - F * (H * (1 / 8192)) - F * (1 / 8192) * H + 8192 * (F * (1 / 8192) * (H * (1 / 8192))) := by
    have e1 : ∀ b, (f b - F * (1 / 8192)) * (h b - H * (1 / 8192))
        = f b * h b - f b * (H * (1 / 8192)) - F * (1 / 8192) * h b + F * (1 / 8192) * (H * (1 / 8192)) := fun b => by ring
    simp only [e1, Finset.sum_add_distrib, Finset.sum_sub_distrib, ← Finset.sum_mul, ← Finset.mul_sum, hF, hH,
      Finset.sum_const, Finset.card_univ, Fintype.card_fin, nsmul_eq_mul]
    norm_num
    ring
  rw [e]
  ring

/-- The same with the kernel's three partial products, on columns of finite entries. -/
theorem covariance (x y : Fin 8192 → EReal) (hx : ∀ b, ∃ r : ℝ, x b = (r : EReal)) (hy : ∀ b, ∃ r : ℝ, y b = (r : EReal))
    (μ ν w : EReal) (hw : w = Ideal.ofBits .f32 0x39000000#32) (hμ : μ = (∑ b, x b) * w) (hν : ν = (∑ b, y b) * w) :
    (∑ b, x b * y b) * w - (μ * ν + μ * (ν - ν) + (μ - μ) * ν) = (∑ b, (x b - μ) * (y b - ν)) * w := by
  choose f hf using hx
  choose h hh using hy
  rw [bits_share] at hw
  simp only [hf, hh] at hμ hν ⊢
  rw [hw, ← coe_sum, ← EReal.coe_mul] at hμ hν
  rw [hw, hμ, hν]
  simp only [← EReal.coe_sub, ← EReal.coe_mul, ← EReal.coe_add, ← coe_sum]
  rw [EReal.coe_eq_coe_iff, ← deviations]
  ring

/-! ## Columns with an infinite entry -/

/-- An extended real that is no real number is one of the two infinities. -/
theorem infinite_of (x : EReal) (h : ¬∃ r : ℝ, x = (r : EReal)) : x = ⊤ ∨ x = ⊥ := by
  induction x with
  | bot => exact .inr rfl
  | top => exact .inl rfl
  | coe r => exact absurd ⟨r, rfl⟩ h

/-- The sum of a column with an infinite entry is infinite. -/
theorem sum_infinite (x : Fin 8192 → EReal) (h : ¬∀ b, ∃ r : ℝ, x b = (r : EReal)) : ∑ b, x b = ⊤ ∨ ∑ b, x b = ⊥ := by
  obtain ⟨b, hb⟩ := not_forall.1 h
  rw [← Finset.add_sum_erase _ _ (Finset.mem_univ b)]
  rcases infinite_of _ hb with e | e <;> rw [e]
  · induction (∑ q ∈ Finset.univ.erase b, x q) with
    | bot => exact .inr rfl
    | top => exact .inl rfl
    | coe r => exact .inl (EReal.top_add_coe r)
  · exact .inr (EReal.bot_add _)

/-- Squares are not negative. -/
theorem square_nonneg (x : EReal) : 0 ≤ x * x := by
  induction x with
  | bot => simp
  | top => simp
  | coe r => rw [← EReal.coe_mul]; exact_mod_cast mul_self_nonneg r

/-- The square of an infinity is infinite. -/
theorem square_infinite (x : EReal) (h : x = ⊤ ∨ x = ⊥) : x * x = ⊤ := by
  rcases h with rfl | rfl <;> simp

/-- A sum of squares one of which is infinite is infinite. -/
theorem squares_infinite {ι : Type} [Fintype ι] (x : ι → EReal) (b : ι) (h : x b = ⊤ ∨ x b = ⊥) : ∑ b, x b * x b = ⊤ :=
  top_le_iff.1 <| (square_infinite _ h).symm.le.trans <|
    Finset.single_le_sum (f := fun b => x b * x b) (fun b _ => square_nonneg (x b)) (Finset.mem_univ b)

/-- Infinity divided by the number of rows is infinity. -/
theorem top_share : (⊤ : EReal) * Ideal.ofBits .f32 0x39000000#32 = ⊤ := by
  rw [bits_share]; exact EReal.top_mul_coe_of_pos (by norm_num)

/-- Either infinity divided by the number of rows is infinite. -/
theorem mean_infinite (x : EReal) (h : x = ⊤ ∨ x = ⊥) :
    x * Ideal.ofBits .f32 0x39000000#32 = ⊤ ∨ x * Ideal.ofBits .f32 0x39000000#32 = ⊥ := by
  rw [bits_share]
  rcases h with rfl | rfl
  · exact .inl (EReal.top_mul_coe_of_pos (by norm_num))
  · exact .inr (EReal.bot_mul_coe_of_pos (by norm_num))

/-- The kernel's variance of such a column. -/
theorem kernel_infinite (x : Fin 8192 → EReal) (h : ¬∀ b, ∃ r : ℝ, x b = (r : EReal)) (μ w : EReal)
    (hw : w = Ideal.ofBits .f32 0x39000000#32) (hμ : μ = (∑ b, x b) * w) :
    (∑ b, x b * x b) * w - (μ * μ + μ * (μ - μ) + (μ - μ) * μ) = ⊤
      ∨ (∑ b, x b * x b) * w - (μ * μ + μ * (μ - μ) + (μ - μ) * μ) = ⊥ := by
  obtain ⟨b, hb⟩ := not_forall.1 h
  rw [squares_infinite x b (infinite_of _ hb), hw, top_share]
  have hi : μ = ⊤ ∨ μ = ⊥ := by rw [hμ, hw]; exact mean_infinite _ (sum_infinite x h)
  rcases hi with rfl | rfl
  · left; simp [sub_eq_add_neg]
  · right; simp [sub_eq_add_neg]

/-- The reference's variance of such a column. -/
theorem reference_infinite (x : Fin 8192 → EReal) (h : ¬∀ b, ∃ r : ℝ, x b = (r : EReal)) (μ w : EReal)
    (hw : w = Ideal.ofBits .f32 0x39000000#32) (hμ : μ = (∑ b, x b) * w) : (∑ b, (x b - μ) * (x b - μ)) * w = ⊤ := by
  have hi : μ = ⊤ ∨ μ = ⊥ := by rw [hμ, hw]; exact mean_infinite _ (sum_infinite x h)
  rw [squares_infinite (fun b => x b - μ) 0 ?_, hw, top_share]
  show x 0 - μ = ⊤ ∨ x 0 - μ = ⊥
  induction x 0 with
  | bot => exact .inr (by simp [sub_eq_add_neg])
  | top => rcases hi with rfl | rfl <;> simp [sub_eq_add_neg]
  | coe r => rcases hi with rfl | rfl <;> simp

open Cert.KernelIdeal.Entries (Blk normB rootB)

/-- A covariance with an infinite entry has an infinite norm. -/
theorem norm_infinite (a : Blk) (d e : Fin 16) (h : a d e = ⊤ ∨ a d e = ⊥) : normB a = ⊤ := by
  have hs : ∑ d : Fin 16, ∑ e : Fin 16, a d e * a d e = ⊤ := by
    rw [← Fintype.sum_prod_type' (fun d e => a d e * a d e)]
    exact squares_infinite (fun q : Fin 16 × Fin 16 => a q.1 q.2) (d, e) h
  have hb : ∃ r : ℝ, 0 < r ∧ Ideal.ofBits .f32 0x3F828F5C#32 = (r : EReal) := by
    refine ⟨8556380 / 8388608, by norm_num, ?_⟩
    simp [Ideal.ofBits, Ideal.ieee, -EReal.coe_mul]; norm_num
  obtain ⟨r, hr, e⟩ := hb
  rw [normB, hs, e]
  exact EReal.coe_mul_top_of_pos hr

/-- So its whitening matrix is zero. -/
theorem root_infinite (a : Blk) (d e : Fin 16) (h : a d e = ⊤ ∨ a d e = ⊥) : rootB a = fun _ _ => 0 := by
  funext i k
  rw [rootB, norm_infinite a d e h, Ideal.rsqrt_top, mul_zero]

/-! ## The two arrays -/

section
open Idealize.SL
open Cert.KernelIdeal.Array (row xs ps)
open Cert.KernelIdeal.Entries (col grp pos)

variable (m : (ℓ : Loc Cert.KernelIdeal.nD Cert.KernelIdeal.τ Cert.KernelIdeal.sig) → Buf (Elt Ideal) ℓ) (c : Dev Cert.KernelIdeal.nD)
variable (V0 : Valuation Cert.ReferenceIdeal.τ Cert.ReferenceIdeal.sig (Elt Ideal))
variable (hX : ∀ i, Cert.ReferenceIdeal.Entry.X V0 i = xs m c i)
include hX

/-- Kernel and reference take the same mean of a column. -/
theorem mean_eq (s : Fin 3) (i : Fin 1024) : Cert.KernelIdeal.Array.mean m c s i = Cert.ReferenceIdeal.Entry.mean V0 s i := by
  unfold Cert.KernelIdeal.Array.mean Cert.KernelIdeal.Array.sums Cert.ReferenceIdeal.Entry.mean
  rw [div_count]
  simp only [hX]

/-- Column `i` of view `s` has finite entries only. -/
def Finite (s : Fin 3) (i : Fin 1024) : Prop := ∀ b : Fin 8192, ∃ r : ℝ, xs m c (ix2 (row s b) i) = (r : EReal)

/-- On two columns of finite entries kernel and reference have the same covariance. -/
theorem cov_eq (s : Fin 3) (i j : Fin 1024) (hi : Finite m c s i) (hj : Finite m c s j) :
    Cert.KernelIdeal.Array.cov m c s i j = Cert.ReferenceIdeal.Entry.cov V0 s i j := by
  unfold Cert.ReferenceIdeal.Entry.cov
  rw [div_count, ← mean_eq m c V0 hX, ← mean_eq m c V0 hX]
  simp only [hX]
  exact covariance (fun b => xs m c (ix2 (row s b) i)) (fun b => xs m c (ix2 (row s b) j)) hi hj
    _ _ _ rfl rfl rfl

/-- On a column with an infinite entry both variances are infinite. -/
theorem cov_infinite (s : Fin 3) (i : Fin 1024) (hi : ¬Finite m c s i) :
    (Cert.KernelIdeal.Array.cov m c s i i = ⊤ ∨ Cert.KernelIdeal.Array.cov m c s i i = ⊥)
      ∧ Cert.ReferenceIdeal.Entry.cov V0 s i i = ⊤ := by
  refine ⟨kernel_infinite (fun b => xs m c (ix2 (row s b) i)) hi _ _ rfl rfl, ?_⟩
  unfold Cert.ReferenceIdeal.Entry.cov
  rw [div_count, ← mean_eq m c V0 hX]
  simp only [hX]
  exact reference_infinite (fun b => xs m c (ix2 (row s b) i)) hi _ _ rfl rfl

/-- The whitening matrices of a group of sixteen columns are equal. -/
theorem root_eq (s : Fin 3) (f : Fin 16 → Fin 1024) :
    rootB (fun d e => Cert.KernelIdeal.Array.cov m c s (f d) (f e))
      = rootB (fun d e => Cert.ReferenceIdeal.Entry.cov V0 s (f d) (f e)) := by
  by_cases h : ∀ d, Finite m c s (f d)
  · simp only [cov_eq m c V0 hX s _ _ (h _) (h _)]
  · obtain ⟨d, hd⟩ := not_forall.1 h
    have hc := cov_infinite m c V0 hX s (f d) hd
    rw [root_infinite _ d d hc.1, root_infinite _ d d (.inl hc.2)]

/-- The kernel's array is the reference's. -/
theorem arrays (hP : ∀ i, Cert.ReferenceIdeal.Entry.P V0 i = ps m c i)
    (σ : Fin 3 → Equiv.Perm (Fin 1024)) (hσ : ∀ s k, ps m c (ix2 s k) = BitVec.ofNat 32 (σ s k).val)
    (r : Fin 24576) (j : Fin 1024) :
    Cert.KernelIdeal.Array.G m c (ix2 r j) = Cert.ReferenceIdeal.Entry.result V0 (ix2 r j) := by
  obtain ⟨s, b, rfl⟩ : ∃ s b, r = row s b :=
    ⟨⟨r.val / 8192, by omega⟩, ⟨r.val % 8192, by omega⟩, Fin.ext (by simp only [row]; omega)⟩
  obtain ⟨k, rfl⟩ := (σ s).surjective j
  rw [Cert.KernelIdeal.Array.G_apply m c s (σ s) (hσ s),
    Cert.ReferenceIdeal.Entry.result_apply V0 σ (fun s k => (hP _).trans (hσ s k))]
  simp only [hX, mean_eq m c V0 hX, root_eq m c V0 hX s fun d => σ s (col (grp k) d)]

end

end Cert.Equal

end
-- ==== Proof.lean ====
module

public import proofs.«01_k».proof.Defs
public import proofs.«01_k».proof.Proof.WordLaunch
public import Idealize.ShloMosaic.Lib.Claim
public import Idealize.ShloMosaic.Lib.Quiescent

@[expose] public section

set_option maxRecDepth 16384

noncomputable section

namespace Cert.Proof

open Idealize.ShloMosaic Idealize.SL.Sem

/-- The reference runs, leaves its arguments alone and ends with every counter at zero (it has none). -/
theorem reference_frame : Cert.quiescent_ReferenceIdeal (hReferenceIdeal := Cert.ReferenceIdeal.Gen.facts) := by
  intro m g _
  exact (θ_run _ _ _).mono (fun r h => ⟨fun c => (h c).2, sem_eq_zero_of_no_sems (by decide) r.2⟩)
    (Cert.ReferenceIdeal.Value.run (F := Ideal) m g)

/-- Where every row of the second argument is a permutation, the kernel and the reference end with one array in the result:
    `Cert.KernelIdeal.Array.G`. -/
theorem algebraic : Cert.algebraic_KernelIdeal_ReferenceIdeal_pre_permuted
    (hKernelIdeal := Cert.KernelIdeal.Gen.facts) (hReferenceIdeal := Cert.ReferenceIdeal.Gen.facts)
    (hPre_permuted := Cert.Pre_permuted.Read.facts) := by
  intro m g m' g' hpre hagree
  refine ⟨fun c => Cert.KernelIdeal.Array.G m c, ?_, ?_⟩
  · refine (θ_run _ _ _).mono (fun r h c => ⟨?_, (h c).2.1, (h c).2.2⟩) (Cert.KernelIdeal.Launch.value m g)
    exact (h c).1.trans (Cert.KernelIdeal.Array.final m c)
  · refine (θ_run _ _ _).mono (fun r h c => ⟨?_, (h c).2.1, (h c).2.2⟩) (Cert.ReferenceIdeal.Value.run (F := Ideal) m' g')
    refine (h c).1.trans ?_
    obtain ⟨h1, h2⟩ := hpre c
    choose σ hσ using Cert.Pre_permuted.Read.perms _ _ h1 h2
    funext i
    rw [eq_ix2 i]
    exact (Cert.Equal.arrays m c (StableHlo.launchContents m' c) (fun i => congrFun (hagree c).1 i)
      (fun i => congrFun (hagree c).2 i) σ hσ _ _).symm

/-- The five claims together. -/
theorem claim : Cert.Claim :=
  ⟨Cert.Kernel.Gen.facts, Cert.KernelIdeal.Gen.facts, Cert.ReferenceIdeal.Gen.facts, Cert.Pre_permuted.Read.facts,
    fun m g _ => Cert.Kernel.Launch.frame m g,
    fun m g _ => Cert.KernelIdeal.Launch.frame m g,
    fun m g _ => Cert.KernelIdeal.Launch.frame m g,
    reference_frame,
    fun m g _ => reference_frame m g trivial,
    trivial,
    algebraic⟩

end Cert.Proof

end
